-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts [hPre_in_range : Cert.Pre_in_range.Facts] (m : (ℓ : Loc Cert.Experts.nD Cert.Experts.τ Cert.Experts.sig) → Buf (Elt Bits) ℓ) : Prop :=
  ∀ c : Dev Cert.Experts.nD,
    (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_in_range : Cert.Pre_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_in_range [hPre_in_range : Cert.Pre_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_in_range : Cert.Pre_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_in_range [hExpertsReferenceIdeal : Cert.ExpertsReferenceIdeal.Facts] [hPre_in_range : Cert.Pre_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v62) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_in_range := hPre_in_range)
    ∧ quiescent_ExpertsIdeal (hExpertsIdeal := hExpertsIdeal) (hPre_in_range := hPre_in_range)
    ∧ quiescent_ExpertsReferenceIdeal (hExpertsReferenceIdeal := hExpertsReferenceIdeal)
    ∧ quiescent_ExpertsReferenceIdeal_pre_in_range (hExpertsReferenceIdeal := hExpertsReferenceIdeal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal) (hPre_in_range := hPre_in_range)
-- ==== Pre_finite.lean ====
abbrev S49152x2816 : Shape := ⟨2, ![49152, 2816]⟩
abbrev S32x8 : Shape := ⟨2, ![32, 8]⟩
abbrev S1x8 : Shape := ⟨2, ![1, 8]⟩
abbrev S49152x640 : Shape := ⟨2, ![49152, 640]⟩
abbrev S31457280 : Shape := ⟨1, ![31457280]⟩
abbrev S256 : Shape := ⟨1, ![256]⟩
abbrev S8 : Shape := ⟨1, ![8]⟩
abbrev S31457544 : Shape := ⟨1, ![31457544]⟩
abbrev S_ : Shape := ⟨0, ![]⟩

class Facts : Prop where
  slices_S49152x2816_S49152x640_0_2048 : S49152x2816.Slices ![0, 2048] S49152x640
  bitsLt_bf16_f32 : FTy.bits .bf16 < FTy.bits .f32
  shapeCasts_S49152x640_S31457280 : S49152x640.ShapeCasts S31457280
  shapeCasts_S32x8_S256 : S32x8.ShapeCasts S256
  shapeCasts_S1x8_S8 : S1x8.ShapeCasts S8
  concatenates_S31457280_S256_S8_S31457544_d0 : Shape.Concatenates [S31457280, S256, S8] S31457544 0
  bcast_S_S31457544 : S_.BroadcastsInDim S31457544 (![] : Fin 0 → Fin S31457544.rank)

variable [Facts]

def fn {F : FTy → Type} [FloatOps F] (main_arg0 : FVec F S49152x2816 .bf16) (main_arg1 : FVec F S32x8 .f32) (main_arg2 : FVec F S1x8 .f32) : IVec S31457544 1 :=
  let main_v0 : FVec F S49152x640 .bf16 := (extractStridedSlice S49152x640 ![0, 2048] · slices_S49152x2816_S49152x640_0_2048) main_arg0
  let main_v1 : FVec F S49152x640 .f32 := (extf .f32 · bitsLt_bf16_f32) main_v0
  let main_v2 : FVec F S31457280 .f32 := shapeCast S31457280 main_v1 shapeCasts_S49152x640_S31457280
  let main_v3 : FVec F S256 .f32 := shapeCast S256 main_arg1 shapeCasts_S32x8_S256
  let main_v4 : FVec F S8 .f32 := shapeCast S8 main_arg2 shapeCasts_S1x8_S8
  let main_v5 : FVec F S31457544 .f32 := concatenate S31457544 0 [⟨S31457280, main_v2⟩, ⟨S256, main_v3⟩, ⟨S8, main_v4⟩] concatenates_S31457280_S256_S8_S31457544_d0
  let main_v6 : FVec F S31457544 .f32 := Host.absf main_v5
  let main_cst : FVec F S_ .f32 := constant S_ .f32 0x7F800000#32
  let main_v7 : FVec F S31457544 .f32 := broadcastInDim S31457544 ![] bcast_S_S31457544 main_cst
  let main_v8 : IVec S31457544 1 := cmpf .olt main_v6 main_v7
  main_v8
-- ==== Pre_in_range.lean ====
abbrev S212992x1024 : Shape := ⟨2, ![212992, 1024]⟩
abbrev S416 : Shape := ⟨1, ![416]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S416 : S_.BroadcastsInDim S416 (![] : Fin 0 → Fin S416.rank)

variable [Facts]

def fn {F : FTy → Type} [FloatOps F] (main_arg0 : FVec F S212992x1024 .bf16) (main_arg1 : IVec S416 32) (main_arg2 : IVec S1 32) (main_arg3 : FVec F S32x1024x2048 .bf16) (main_arg4 : FVec F S32x1x2048 .f32) (main_arg5 : FVec F S32x1024x1024 .bf16) (main_arg6 : FVec F S32x1x1024 .f32) : IVec S416 1 :=
  let main_c : IVec S_ 32 := constantI S_ 32 0#32
  let main_v0 : IVec S416 32 := broadcastInDim S416 ![] bcast_S_S416 main_c
  let main_v1 : IVec S416 1 := cmpi .sge main_arg1 main_v0
  let main_c_0 : IVec S_ 32 := constantI S_ 32 32#32
  let main_v2 : IVec S416 32 := broadcastInDim S416 ![] bcast_S_S416 main_c_0
  let main_v3 : IVec S416 1 := cmpi .slt main_arg1 main_v2
  let main_v4 : IVec S416 1 := andi main_v1 main_v3
  main_v4
-- ==== Kernel.lean ====
abbrev S49152x2816 : Shape := ⟨2, ![49152, 2816]⟩
abbrev S32x8 : Shape := ⟨2, ![32, 8]⟩
abbrev S1x8 : Shape := ⟨2, ![1, 8]⟩
abbrev S128x384 : Shape := ⟨2, ![128, 384]⟩
abbrev S1x1x384 : Shape := ⟨3, ![1, 1, 384]⟩
abbrev S8 : Shape := ⟨1, ![8]⟩
abbrev S_ : Shape := ⟨0, ![]⟩
abbrev S128x384x1 : Shape := ⟨3, ![128, 384, 1]⟩
abbrev S128x384x8 : Shape := ⟨3, ![128, 384, 8]⟩
abbrev S8x128x384 : Shape := ⟨3, ![8, 128, 384]⟩
abbrev S1x128x384 : Shape := ⟨3, ![1, 128, 384]⟩
abbrev S2x512x384 : Shape := ⟨3, ![2, 512, 384]⟩
abbrev S8x128 : Shape := ⟨2, ![8, 128]⟩
abbrev S1024 : Shape := ⟨1, ![1024]⟩
abbrev S2x512x1 : Shape := ⟨3, ![2, 512, 1]⟩
abbrev S1x2x512x384 : Shape := ⟨4, ![1, 2, 512, 384]⟩
abbrev S3x2x512x384 : Shape := ⟨4, ![3, 2, 512, 384]⟩
abbrev S49152x512 : Shape := ⟨2, ![49152, 512]⟩
abbrev S512x512 : Shape := ⟨2, ![512, 512]⟩
abbrev S128x128 : Shape := ⟨2, ![128, 128]⟩
abbrev S512x128 : Shape := ⟨2, ![512, 128]⟩
abbrev S768x128 : Shape := ⟨2, ![768, 128]⟩
abbrev S128x512 : Shape := ⟨2, ![128, 512]⟩
abbrev S384x128 : Shape := ⟨2, ![384, 128]⟩
abbrev S512x384 : Shape := ⟨2, ![512, 384]⟩
abbrev S1x1x512x384 : Shape := ⟨4, ![1, 1, 512, 384]⟩
abbrev S1x512x1 : Shape := ⟨3, ![1, 512, 1]⟩
abbrev S512x1 : Shape := ⟨2, ![512, 1]⟩
abbrev S512 : Shape := ⟨1, ![512]⟩

abbrev nBuf : Space → Nat
  | .hbm => 41
  | .vmem => 21
  | .smem => 0
  | _ => 0

abbrev bufTy : (tb : Table) → Fin (tcTables nBuf tb) → BufTy
  | .hbm, ⟨0, _⟩ => ⟨S49152x2816, .bf16⟩
  | .hbm, ⟨1, _⟩ => ⟨S32x8, .f32⟩
  | .hbm, ⟨2, _⟩ => ⟨S1x8, .f32⟩
  | .hbm, ⟨3, _⟩ => ⟨S128x384, .i32⟩
  | .hbm, ⟨4, _⟩ => ⟨S128x384, .i1⟩
  | .hbm, ⟨5, _⟩ => ⟨S128x384, .i1⟩
  | .hbm, ⟨6, _⟩ => ⟨S1x1x384, .i1⟩
  | .hbm, ⟨7, _⟩ => ⟨S1x1x384, .i1⟩
  | .hbm, ⟨8, _⟩ => ⟨S8, .f32⟩
  | .hbm, ⟨9, _⟩ => ⟨S_, .i32⟩
  | .hbm, ⟨10, _⟩ => ⟨S128x384, .i32⟩
  | .hbm, ⟨11, _⟩ => ⟨S128x384, .i32⟩
  | .hbm, ⟨12, _⟩ => ⟨S128x384, .i32⟩
  | .hbm, ⟨13, _⟩ => ⟨S128x384x1, .i32⟩
  | .hbm, ⟨14, _⟩ => ⟨S128x384x8, .f32⟩
  | .hbm, ⟨15, _⟩ => ⟨S8x128x384, .f32⟩
  | .hbm, ⟨16, _⟩ => ⟨S1x128x384, .i1⟩
  | .hbm, ⟨17, _⟩ => ⟨S_, .f32⟩
  | .hbm, ⟨18, _⟩ => ⟨S_, .f32⟩
  | .hbm, ⟨19, _⟩ => ⟨S8x128x384, .i1⟩
  | .hbm, ⟨20, _⟩ => ⟨S8x128x384, .f32⟩
  | .hbm, ⟨21, _⟩ => ⟨S8x128x384, .f32⟩
  | .hbm, ⟨22, _⟩ => ⟨S2x512x384, .f32⟩
  | .hbm, ⟨23, _⟩ => ⟨S_, .f32⟩
  | .hbm, ⟨24, _⟩ => ⟨S_, .f32⟩
  | .hbm, ⟨25, _⟩ => ⟨S2x512x384, .i1⟩
  | .hbm, ⟨26, _⟩ => ⟨S2x512x384, .f32⟩
  | .hbm, ⟨27, _⟩ => ⟨S2x512x384, .f32⟩
  | .hbm, ⟨28, _⟩ => ⟨S_, .f32⟩
  | .hbm, ⟨29, _⟩ => ⟨S_, .f32⟩
  | .hbm, ⟨30, _⟩ => ⟨S2x512x384, .i1⟩
  | .hbm, ⟨31, _⟩ => ⟨S2x512x384, .f32⟩
  | .hbm, ⟨32, _⟩ => ⟨S2x512x384, .f32⟩
  | .hbm, ⟨33, _⟩ => ⟨S8x128, .f32⟩
  | .hbm, ⟨34, _⟩ => ⟨S1024, .f32⟩
  | .hbm, ⟨35, _⟩ => ⟨S2x512x1, .f32⟩
  | .hbm, ⟨36, _⟩ => ⟨S1x2x512x384, .f32⟩
  | .hbm, ⟨37, _⟩ => ⟨S1x2x512x384, .f32⟩
  | .hbm, ⟨38, _⟩ => ⟨S1x2x512x384, .f32⟩
  | .hbm, ⟨39, _⟩ => ⟨S3x2x512x384, .f32⟩
  | .hbm, ⟨40, _⟩ => ⟨S49152x512, .bf16⟩
  | .local _ .vmem, ⟨0, _⟩ => ⟨S512x512, .bf16⟩
  | .local _ .vmem, ⟨1, _⟩ => ⟨S512x512, .bf16⟩
  | .local _ .vmem, ⟨2, _⟩ => ⟨S128x128, .bf16⟩
  | .local _ .vmem, ⟨3, _⟩ => ⟨S128x128, .bf16⟩
  | .local _ .vmem, ⟨4, _⟩ => ⟨S512x128, .bf16⟩
  | .local _ .vmem, ⟨5, _⟩ => ⟨S512x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S512x128, .bf16⟩
  | .local _ .vmem, ⟨11, _⟩ => ⟨S512x128, .bf16⟩
  | .local _ .vmem, ⟨12, _⟩ => ⟨S128x128, .bf16⟩
  | .local _ .vmem, ⟨13, _⟩ => ⟨S128x128, .bf16⟩
  | .local _ .vmem, ⟨14, _⟩ => ⟨S3x2x512x384, .f32⟩
  | .local _ .vmem, ⟨15, _⟩ => ⟨S2x512x1, .f32⟩
  | .local _ .vmem, ⟨16, _⟩ => ⟨S512x512, .bf16⟩
  | .local _ .vmem, ⟨17, _⟩ => ⟨S512x512, .bf16⟩
  | .local _ .vmem, ⟨18, _⟩ => ⟨S768x128, .bf16⟩
  | .local _ .vmem, ⟨19, _⟩ => ⟨S768x128, .bf16⟩
  | .local _ .vmem, ⟨20, _⟩ => ⟨S768x128, .bf16⟩
  | _, _ => ⟨S49152x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_c_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_v9 : Ref sig .tc := ⟨.hbm, 22, rfl⟩
abbrev main_cst_5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v10 : Ref sig .tc := ⟨.hbm, 27, rfl⟩
abbrev main_cst_6 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![96], ![false]⟩

def k0_off1 (i : grid0.Coords) (c0_i32 : BitVec 32) : Fin 4 → Nat :=
  let arg0 : BitVec 32 := BitVec.ofNat 32 (i 0).val
  let c4_i32 : BitVec 32 := 4#32
  let v26 : BitVec 32 := Scalar.muli arg0 c4_i32
  let v27 : BitVec 32 := Scalar.addi v26 c0_i32
  let c256_i32 : BitVec 32 := 256#32
  let v28 : BitVec 1 := Scalar.cmpi .slt v27 c256_i32
  let c32_i32 : BitVec 32 := 32#32
  let c0_i32_18 : BitVec 32 := 0#32
  let v29 : BitVec 1 := Scalar.cmpi .eq c32_i32 c0_i32_18
  let c1_i32 : BitVec 32 := 1#32
  let v30 : BitVec 32 := Scalar.select v29 c1_i32 c32_i32
  let v31 : BitVec 32 := Scalar.remsi v27 v30
  let c0_i32_20 : BitVec 32 := 0#32
  let v33 : BitVec 1 := Scalar.cmpi .slt v31 c0_i32_20
  let c0_i32_21 : BitVec 32 := 0#32
  let v34 : BitVec 1 := Scalar.cmpi .slt v30 c0_i32_21
  let v35 : BitVec 1 := Scalar.xori v33 v34
  let c0_i32_19 : BitVec 32 := 0#32
  let v32 : BitVec 1 := Scalar.cmpi .ne v31 c0_i32_19
  let v36 : BitVec 1 := Scalar.andi v35 v32
  let v37 : BitVec 32 := Scalar.addi v31 v30
  let v38 : BitVec 32 := Scalar.select v36 v37 v31
  let c256_i32_22 : BitVec 32 := 256#32
  let v39 : BitVec 32 := Scalar.subi v27 c256_i32_22
  let c128_i32 : BitVec 32 := 128#32
  let c0_i32_23 : BitVec 32 := 0#32
  let v40 : BitVec 1 := Scalar.cmpi .eq c128_i32 c0_i32_23
  let c1_i32_24 : BitVec 32 := 1#32
  let v41 : BitVec 32 := Scalar.select v40 c1_i32_24 c128_i32
  let v42 : BitVec 32 := Scalar.remsi v39 v41
  let c0_i32_26 : BitVec 32 := 0#32
  let v44 : BitVec 1 := Scalar.cmpi .slt v42 c0_i32_26
  let c0_i32_27 : BitVec 32 := 0#32
  let v45 : BitVec 1 := Scalar.cmpi .slt v41 c0_i32_27
  let v46 : BitVec 1 := Scalar.xori v44 v45
  let c0_i32_25 : BitVec 32 := 0#32
  let v43 : BitVec 1 := Scalar.cmpi .ne v42 c0_i32_25
  let v47 : BitVec 1 := Scalar.andi v46 v43
  let v48 : BitVec 32 := Scalar.addi v42 v41
  let v49 : BitVec 32 := Scalar.select v47 v48 v42
  let v50 : BitVec 32 := Scalar.select v28 v38 v49
  let c0_i32_30 : BitVec 32 := 0#32
  let v52 : BitVec 1 := Scalar.cmpi .eq v50 c0_i32_30
  let c1_i32_33 : BitVec 32 := 1#32
  let c32_i32_28 : BitVec 32 := 32#32
  let c128_i32_29 : BitVec 32 := 128#32
  let v51 : BitVec 32 := Scalar.select v28 c32_i32_28 c128_i32_29
  let c1_i32_31 : BitVec 32 := 1#32
  let v53 : BitVec 32 := Scalar.subi v51 c1_i32_31
  let v54 : BitVec 1 := Scalar.cmpi .eq v50 v53
  let c2_i32 : BitVec 32 := 2#32
  let c0_i32_32 : BitVec 32 := 0#32
  let v55 : BitVec 32 := Scalar.select v54 c2_i32 c0_i32_32
  let v56 : BitVec 32 := Scalar.select v52 c1_i32_33 v55
  let v66 : Index := Scalar.indexCast v56
  let c0_41 : Index := 0#32
  let c0_42 : Index := 0#32
  let c0_43 : Index := 0#32
  ![v66.toNat, 0, 0, 0]
def k0_off2 (i : grid0.Coords) (c0_i32 : BitVec 32) : Fin 4 → Nat :=
  let arg0 : BitVec 32 := BitVec.ofNat 32 (i 0).val
  let c4_i32 : BitVec 32 := 4#32
  let v26 : BitVec 32 := Scalar.muli arg0 c4_i32
  let v27 : BitVec 32 := Scalar.addi v26 c0_i32
  let c256_i32 : BitVec 32 := 256#32
  let v28 : BitVec 1 := Scalar.cmpi .slt v27 c256_i32
  let c32_i32 : BitVec 32 := 32#32
  let c0_i32_18 : BitVec 32 := 0#32
  let v29 : BitVec 1 := Scalar.cmpi .eq c32_i32 c0_i32_18
  let c1_i32 : BitVec 32 := 1#32
  let v30 : BitVec 32 := Scalar.select v29 c1_i32 c32_i32
  let v31 : BitVec 32 := Scalar.remsi v27 v30
  let c0_i32_20 : BitVec 32 := 0#32
  let v33 : BitVec 1 := Scalar.cmpi .slt v31 c0_i32_20
  let c0_i32_21 : BitVec 32 := 0#32
  let v34 : BitVec 1 := Scalar.cmpi .slt v30 c0_i32_21
  let v35 : BitVec 1 := Scalar.xori v33 v34
  let c0_i32_19 : BitVec 32 := 0#32
  let v32 : BitVec 1 := Scalar.cmpi .ne v31 c0_i32_19
  let v36 : BitVec 1 := Scalar.andi v35 v32
  let v37 : BitVec 32 := Scalar.addi v31 v30
  let v38 : BitVec 32 := Scalar.select v36 v37 v31
  let c256_i32_22 : BitVec 32 := 256#32
  let v39 : BitVec 32 := Scalar.subi v27 c256_i32_22
  let c128_i32 : BitVec 32 := 128#32
  let c0_i32_23 : BitVec 32 := 0#32
  let v40 : BitVec 1 := Scalar.cmpi .eq c128_i32 c0_i32_23
  let c1_i32_24 : BitVec 32 := 1#32
  let v41 : BitVec 32 := Scalar.select v40 c1_i32_24 c128_i32
  let v42 : BitVec 32 := Scalar.remsi v39 v41
  let c0_i32_26 : BitVec 32 := 0#32
  let v44 : BitVec 1 := Scalar.cmpi .slt v42 c0_i32_26
  let c0_i32_27 : BitVec 32 := 0#32
  let v45 : BitVec 1 := Scalar.cmpi .slt v41 c0_i32_27
  let v46 : BitVec 1 := Scalar.xori v44 v45
  let c0_i32_25 : BitVec 32 := 0#32
  let v43 : BitVec 1 := Scalar.cmpi .ne v42 c0_i32_25
  let v47 : BitVec 1 := Scalar.andi v46 v43
  let v48 : BitVec 32 := Scalar.addi v42 v41
  let v49 : BitVec 32 := Scalar.select v47 v48 v42
  let v50 : BitVec 32 := Scalar.select v28 v38 v49
  let c0_i32_30 : BitVec 32 := 0#32
  let v52 : BitVec 1 := Scalar.cmpi .eq v50 c0_i32_30
  let c1_i32_33 : BitVec 32 := 1#32
  let c32_i32_28 : BitVec 32 := 32#32
  let c128_i32_29 : BitVec 32 := 128#32
  let v51 : BitVec 32 := Scalar.select v28 c32_i32_28 c128_i32_29
  let c1_i32_31 : BitVec 32 := 1#32
  let v53 : BitVec 32 := Scalar.subi v51 c1_i32_31
  let v54 : BitVec 1 := Scalar.cmpi .eq v50 v53
  let c2_i32 : BitVec 32 := 2#32
  let c0_i32_32 : BitVec 32 := 0#32
  let v55 : BitVec 32 := Scalar.select v54 c2_i32 c0_i32_32
  let v56 : BitVec 32 := Scalar.select v52 c1_i32_33 v55
  let v91 : Index := Scalar.indexCast v56
  let c1 : Index := 1#32
  let c0_54 : Index := 0#32
  let c0_55 : Index := 0#32
  ![v91.toNat, 1, 0, 0]
def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let c0_i32_0 : BitVec 32 := 0#32
  ![v2.toNat, c20_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c383_i32 : BitVec 32 := 383#32
  let v2 : BitVec 32 := Scalar.minsi v1 c383_i32
  let c20_i32 : BitVec 32 := 20#32
  let c0_i32 : BitVec 32 := 0#32
  ![v2.toNat, c20_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c21_i32 : BitVec 32 := 21#32
  let c0_i32_0 : BitVec 32 := 0#32
  ![v2.toNat, c21_i32.toNat]

def cc0_transform_5 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c383_i32 : BitVec 32 := 383#32
  let v2 : BitVec 32 := Scalar.minsi v1 c383_i32
  let c21_i32 : BitVec 32 := 21#32
  let c0_i32 : BitVec 32 := 0#32
  ![v2.toNat, c21_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x2x512x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S49152x2816 : Shape := ⟨2, ![49152, 2816]⟩
abbrev S32x8 : Shape := ⟨2, ![32, 8]⟩
abbrev S1x8 : Shape := ⟨2, ![1, 8]⟩
abbrev S128x384 : Shape := ⟨2, ![128, 384]⟩
abbrev S_ : Shape := ⟨0, ![]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S32768x2816 : Shape := ⟨2, ![32768, 2816]⟩
abbrev S16384x2816 : Shape := ⟨2, ![16384, 2816]⟩
abbrev S32768x512 : Shape := ⟨2, ![32768, 512]⟩
abbrev S8x4096x4x2x64 : Shape := ⟨5, ![8, 4096, 4, 2, 64]⟩
abbrev S8x4096x2x4x64 : Shape := ⟨5, ![8, 4096, 2, 4, 64]⟩
abbrev S32768x128 : Shape := ⟨2, ![32768, 128]⟩
abbrev S8x4096x2x64 : Shape := ⟨4, ![8, 4096, 2, 64]⟩
abbrev S8 : Shape := ⟨1, ![8]⟩
abbrev S8x32x128x2x4x64 : Shape := ⟨6, ![8, 32, 128, 2, 4, 64]⟩
abbrev S8x4352x2x64 : Shape := ⟨4, ![8, 4352, 2, 64]⟩
abbrev S8x32x128x2x64 : Shape := ⟨5, ![8, 32, 128, 2, 64]⟩
abbrev S8x32x384x2x64 : Shape := ⟨5, ![8, 32, 384, 2, 64]⟩
abbrev S8x32x2x384x128x4 : Shape := ⟨6, ![8, 32, 2, 384, 128, 4]⟩
abbrev S8x32x2x4x128x384 : Shape := ⟨6, ![8, 32, 2, 4, 128, 384]⟩
abbrev S32 : Shape := ⟨1, ![32]⟩
abbrev S32x1 : Shape := ⟨2, ![32, 1]⟩
abbrev S384 : Shape := ⟨1, ![384]⟩
abbrev S1x384 : Shape := ⟨2, ![1, 384]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S1x1x2x4x128x384 : Shape := ⟨6, ![1, 1, 2, 4, 128, 384]⟩
abbrev S2x4 : Shape := ⟨2, ![2, 4]⟩
abbrev S2x4x1 : Shape := ⟨3, ![2, 4, 1]⟩
abbrev S8x32x2x4x128 : Shape := ⟨5, ![8, 32, 2, 4, 128]⟩
abbrev S1x1x2x4x1 : Shape := ⟨5, ![1, 1, 2, 4, 1]⟩
abbrev S8x32x2x4x128x1 : Shape := ⟨6, ![8, 32, 2, 4, 128, 1]⟩
abbrev S8x32x2x64x4x128 : Shape := ⟨6, ![8, 32, 2, 64, 4, 128]⟩
abbrev S8x32x128x4x2x64 : Shape := ⟨6, ![8, 32, 128, 4, 2, 64]⟩
abbrev S16384x512 : Shape := ⟨2, ![16384, 512]⟩
abbrev S1x16384x4x2x64 : Shape := ⟨5, ![1, 16384, 4, 2, 64]⟩
abbrev S1x16384x2x4x64 : Shape := ⟨5, ![1, 16384, 2, 4, 64]⟩
abbrev S16384x128 : Shape := ⟨2, ![16384, 128]⟩
abbrev S1x16384x2x64 : Shape := ⟨4, ![1, 16384, 2, 64]⟩
abbrev S1x128x128x2x4x64 : Shape := ⟨6, ![1, 128, 128, 2, 4, 64]⟩
abbrev S1x16640x2x64 : Shape := ⟨4, ![1, 16640, 2, 64]⟩
abbrev S1x128x128x2x64 : Shape := ⟨5, ![1, 128, 128, 2, 64]⟩
abbrev S1x128x384x2x64 : Shape := ⟨5, ![1, 128, 384, 2, 64]⟩
abbrev S1x128x2x384x128x4 : Shape := ⟨6, ![1, 128, 2, 384, 128, 4]⟩
abbrev S1x128x2x4x128x384 : Shape := ⟨6, ![1, 128, 2, 4, 128, 384]⟩
abbrev S128 : Shape := ⟨1, ![128]⟩
abbrev S128x1 : Shape := ⟨2, ![128, 1]⟩
abbrev S128x1x384 : Shape := ⟨3, ![128, 1, 384]⟩
abbrev S128x128x384 : Shape := ⟨3, ![128, 128, 384]⟩
abbrev S1x128x1x1x128x384 : Shape := ⟨6, ![1, 128, 1, 1, 128, 384]⟩
abbrev S1x128x2x4x128 : Shape := ⟨5, ![1, 128, 2, 4, 128]⟩
abbrev S1x128x2x4x128x1 : Shape := ⟨6, ![1, 128, 2, 4, 128, 1]⟩
abbrev S1x128x2x64x4x128 : Shape := ⟨6, ![1, 128, 2, 64, 4, 128]⟩
abbrev S1x128x128x4x2x64 : Shape := ⟨6, ![1, 128, 128, 4, 2, 64]⟩
abbrev S49152x512 : Shape := ⟨2, ![49152, 512]⟩

abbrev nBuf : Space → Nat
  | .hbm => 199
  | .vmem => 0
  | .smem => 0
  | _ => 0

abbrev hbmTy0_0 (i : Nat) : BufTy := match i % 128 with
  | 0 => ⟨S49152x2816, .bf16⟩
  | 1 => ⟨S32x8, .f32⟩
  | 2 => ⟨S1x8, .f32⟩
  | 3 => ⟨S128x384, .i1⟩
  | 4 => ⟨S128x384, .i32⟩
  | 5 => ⟨S128x384, .i1⟩
  | 6 => ⟨S_, .i32⟩
  | 7 => ⟨S128x384, .i32⟩
  | 8 => ⟨S128x384, .i32⟩
  | 9 => ⟨S128x384, .i32⟩
  | 10 => ⟨S128x384x1, .i32⟩
  | 11 => ⟨S128x384x8, .f32⟩
  | 12 => ⟨S8x128x384, .f32⟩
  | 13 => ⟨S2x4x128x384, .f32⟩
  | 14 => ⟨S49152x2816, .f32⟩
  | 15 => ⟨S32768x2816, .f32⟩
  | 16 => ⟨S16384x2816, .f32⟩
  | 17 => ⟨S32768x512, .f32⟩
  | 18 => ⟨S8x4096x4x2x64, .f32⟩
  | 19 => ⟨S8x4096x2x4x64, .f32⟩
  | 20 => ⟨S32768x128, .f32⟩
  | 21 => ⟨S8x4096x2x64, .f32⟩
  | 22 => ⟨S32768x128, .f32⟩
  | 23 => ⟨S8x4096x2x64, .f32⟩
  | 24 => ⟨S8, .f32⟩
  | 25 => ⟨S8x32x128x2x4x64, .f32⟩
  | 26 => ⟨S_, .i32⟩
  | 27 => ⟨S_, .f32⟩
  | 28 => ⟨S8x4352x2x64, .f32⟩
  | 29 => ⟨S8x4096x2x64, .f32⟩
  | 30 => ⟨S8x32x128x2x64, .f32⟩
  | 31 => ⟨S8x4096x2x64, .f32⟩
  | 32 => ⟨S8x32x128x2x64, .f32⟩
  | 33 => ⟨S8x4096x2x64, .f32⟩
  | 34 => ⟨S8x32x128x2x64, .f32⟩
  | 35 => ⟨S8x32x384x2x64, .f32⟩
  | 36 => ⟨S_, .i32⟩
  | 37 => ⟨S_, .f32⟩
  | 38 => ⟨S8x4352x2x64, .f32⟩
  | 39 => ⟨S8x4096x2x64, .f32⟩
  | 40 => ⟨S8x32x128x2x64, .f32⟩
  | 41 => ⟨S8x4096x2x64, .f32⟩
  | 42 => ⟨S8x32x128x2x64, .f32⟩
  | 43 => ⟨S8x4096x2x64, .f32⟩
  | 44 => ⟨S8x32x128x2x64, .f32⟩
  | 45 => ⟨S8x32x384x2x64, .f32⟩
  | 46 => ⟨S8x32x2x384x128x4, .f32⟩
  | 47 => ⟨S8x32x2x4x128x384, .f32⟩
  | 48 => ⟨S32, .i32⟩
  | 49 => ⟨S32x1, .i32⟩
  | 50 => ⟨S_, .i32⟩
  | 51 => ⟨S32x1, .i32⟩
  | 52 => ⟨S32x1, .i32⟩
  | 53 => ⟨S_, .i32⟩
  | 54 => ⟨S32x1, .i32⟩
  | 55 => ⟨S32x1, .i32⟩
  | 56 => ⟨S384, .i32⟩
  | 57 => ⟨S1x384, .i32⟩
  | 58 => ⟨S32x384, .i32⟩
  | 59 => ⟨S32x384, .i32⟩
  | 60 => ⟨S32x384, .i32⟩
  | 61 => ⟨S1x128x384, .i1⟩
  | 62 => ⟨S_, .i32⟩
  | 63 => ⟨S32x384, .i32⟩
  | 64 => ⟨S32x384, .i1⟩
  | 65 => ⟨S_, .i32⟩
  | 66 => ⟨S32x384, .i32⟩
  | 67 => ⟨S32x384, .i1⟩
  | 68 => ⟨S32x384, .i1⟩
  | 69 => ⟨S32x1x384, .i1⟩
  | 70 => ⟨S32x128x384, .i1⟩
  | 71 => ⟨S32x128x384, .i1⟩
  | 72 => ⟨S32x128x384, .i1⟩
  | 73 => ⟨S1x32x1x1x128x384, .i1⟩
  | 74 => ⟨S1x1x2x4x128x384, .f32⟩
  | 75 => ⟨S8x32x2x4x128x384, .f32⟩
  | 76 => ⟨S8x32x2x4x128x384, .f32⟩
  | 77 => ⟨S_, .f32⟩
  | 78 => ⟨S_, .f32⟩
  | 79 => ⟨S8x32x2x4x128x384, .i1⟩
  | 80 => ⟨S8x32x2x4x128x384, .f32⟩
  | 81 => ⟨S8x32x2x4x128x384, .f32⟩
  | 82 => ⟨S2x4, .f32⟩
  | 83 => ⟨S2x4x1, .f32⟩
  | 84 => ⟨S_, .f32⟩
  | 85 => ⟨S8x32x2x4x128, .f32⟩
  | 86 => ⟨S1x1x2x4x1, .f32⟩
  | 87 => ⟨S8x32x2x4x128, .f32⟩
  | 88 => ⟨S8x32x2x4x128, .f32⟩
  | 89 => ⟨S8x32x2x4x128x1, .f32⟩
  | 90 => ⟨S8x32x2x4x128x384, .f32⟩
  | 91 => ⟨S8x32x2x4x128x384, .f32⟩
  | 92 => ⟨S8x32x2x4x128x384, .f32⟩
  | 93 => ⟨S_, .f32⟩
  | 94 => ⟨S8x32x2x4x128, .f32⟩
  | 95 => ⟨S1x1x2x4x1, .f32⟩
  | 96 => ⟨S8x32x2x4x128, .f32⟩
  | 97 => ⟨S8x32x2x4x128, .f32⟩
  | 98 => ⟨S8x32x2x4x128, .f32⟩
  | 99 => ⟨S8x32x2x4x128, .f32⟩
  | 100 => ⟨S8x32x2x4x128x1, .f32⟩
  | 101 => ⟨S8x32x2x4x128x384, .f32⟩
  | 102 => ⟨S8x32x2x4x128x384, .f32⟩
  | 103 => ⟨S8x32x2x64x4x128, .f32⟩
  | 104 => ⟨S8x32x128x2x4x64, .f32⟩
  | 105 => ⟨S8x32x128x4x2x64, .f32⟩
  | 106 => ⟨S32768x512, .f32⟩
  | 107 => ⟨S16384x512, .f32⟩
  | 108 => ⟨S1x16384x4x2x64, .f32⟩
  | 109 => ⟨S1x16384x2x4x64, .f32⟩
  | 110 => ⟨S16384x128, .f32⟩
  | 111 => ⟨S1x16384x2x64, .f32⟩
  | 112 => ⟨S16384x128, .f32⟩
  | 113 => ⟨S1x16384x2x64, .f32⟩
  | 114 => ⟨S8, .f32⟩
  | 115 => ⟨S1x128x128x2x4x64, .f32⟩
  | 116 => ⟨S_, .i32⟩
  | 117 => ⟨S_, .f32⟩
  | 118 => ⟨S1x16640x2x64, .f32⟩
  | 119 => ⟨S1x16384x2x64, .f32⟩
  | 120 => ⟨S1x128x128x2x64, .f32⟩
  | 121 => ⟨S1x16384x2x64, .f32⟩
  | 122 => ⟨S1x128x128x2x64, .f32⟩
  | 123 => ⟨S1x16384x2x64, .f32⟩
  | 124 => ⟨S1x128x128x2x64, .f32⟩
  | 125 => ⟨S1x128x384x2x64, .f32⟩
  | 126 => ⟨S_, .i32⟩
  | 127 => ⟨S_, .f32⟩
  | _ => ⟨S49152x2816, .bf16⟩

abbrev hbmTy0_1 (i : Nat) : BufTy := match i % 128 with
  | 0 => ⟨S1x16640x2x64, .f32⟩
  | 1 => ⟨S1x16384x2x64, .f32⟩
  | 2 => ⟨S1x128x128x2x64, .f32⟩
  | 3 => ⟨S1x16384x2x64, .f32⟩
  | 4 => ⟨S1x128x128x2x64, .f32⟩
  | 5 => ⟨S1x16384x2x64, .f32⟩
  | 6 => ⟨S1x128x128x2x64, .f32⟩
  | 7 => ⟨S1x128x384x2x64, .f32⟩
  | 8 => ⟨S1x128x2x384x128x4, .f32⟩
  | 9 => ⟨S1x128x2x4x128x384, .f32⟩
  | 10 => ⟨S128, .i32⟩
  | 11 => ⟨S128x1, .i32⟩
  | 12 => ⟨S_, .i32⟩
  | 13 => ⟨S128x1, .i32⟩
  | 14 => ⟨S128x1, .i32⟩
  | 15 => ⟨S_, .i32⟩
  | 16 => ⟨S128x1, .i32⟩
  | 17 => ⟨S128x1, .i32⟩
  | 18 => ⟨S384, .i32⟩
  | 19 => ⟨S1x384, .i32⟩
  | 20 => ⟨S128x384, .i32⟩
  | 21 => ⟨S128x384, .i32⟩
  | 22 => ⟨S128x384, .i32⟩
  | 23 => ⟨S1x128x384, .i1⟩
  | 24 => ⟨S_, .i32⟩
  | 25 => ⟨S128x384, .i32⟩
  | 26 => ⟨S128x384, .i1⟩
  | 27 => ⟨S_, .i32⟩
  | 28 => ⟨S128x384, .i32⟩
  | 29 => ⟨S128x384, .i1⟩
  | 30 => ⟨S128x384, .i1⟩
  | 31 => ⟨S128x1x384, .i1⟩
  | 32 => ⟨S128x128x384, .i1⟩
  | 33 => ⟨S128x128x384, .i1⟩
  | 34 => ⟨S128x128x384, .i1⟩
  | 35 => ⟨S1x128x1x1x128x384, .i1⟩
  | 36 => ⟨S1x1x2x4x128x384, .f32⟩
  | 37 => ⟨S1x128x2x4x128x384, .f32⟩
  | 38 => ⟨S1x128x2x4x128x384, .f32⟩
  | 39 => ⟨S_, .f32⟩
  | 40 => ⟨S_, .f32⟩
  | 41 => ⟨S1x128x2x4x128x384, .i1⟩
  | 42 => ⟨S1x128x2x4x128x384, .f32⟩
  | 43 => ⟨S1x128x2x4x128x384, .f32⟩
  | 44 => ⟨S2x4, .f32⟩
  | 45 => ⟨S2x4x1, .f32⟩
  | 46 => ⟨S_, .f32⟩
  | 47 => ⟨S1x128x2x4x128, .f32⟩
  | 48 => ⟨S1x1x2x4x1, .f32⟩
  | 49 => ⟨S1x128x2x4x128, .f32⟩
  | 50 => ⟨S1x128x2x4x128, .f32⟩
  | 51 => ⟨S1x128x2x4x128x1, .f32⟩
  | 52 => ⟨S1x128x2x4x128x384, .f32⟩
  | 53 => ⟨S1x128x2x4x128x384, .f32⟩
  | 54 => ⟨S1x128x2x4x128x384, .f32⟩
  | 55 => ⟨S_, .f32⟩
  | 56 => ⟨S1x128x2x4x128, .f32⟩
  | 57 => ⟨S1x1x2x4x1, .f32⟩
  | 58 => ⟨S1x128x2x4x128, .f32⟩
  | 59 => ⟨S1x128x2x4x128, .f32⟩
  | 60 => ⟨S1x128x2x4x128, .f32⟩
  | 61 => ⟨S1x128x2x4x128, .f32⟩
  | 62 => ⟨S1x128x2x4x128x1, .f32⟩
  | 63 => ⟨S1x128x2x4x128x384, .f32⟩
  | 64 => ⟨S1x128x2x4x128x384, .f32⟩
  | 65 => ⟨S1x128x2x64x4x128, .f32⟩
  | 66 => ⟨S1x128x128x2x4x64, .f32⟩
  | 67 => ⟨S1x128x128x4x2x64, .f32⟩
  | 68 => ⟨S16384x512, .f32⟩
  | 69 => ⟨S49152x512, .f32⟩
  | 70 => ⟨S49152x512, .bf16⟩
  | _ => ⟨S49152x2816, .bf16⟩

abbrev hbmTy (i : Nat) : BufTy := match i / 128 with
  | 0 => hbmTy0_0 i
  | 1 => hbmTy0_1 i
  | _ => ⟨S49152x2816, .bf16⟩

abbrev bufTy : (tb : Table) → Fin (tcTables nBuf tb) → BufTy
  | .hbm, ⟨i, _⟩ => hbmTy i
  | _, _ => ⟨S49152x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_call1_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_c_11 : Ref sig .tc := ⟨.hbm, 116, rfl⟩
abbrev main_call3_v0 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_c_12 : Ref sig .tc := ⟨.hbm, 126, rfl⟩
abbrev main_call4_v0 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_c_13 : Ref sig .tc := ⟨.hbm, 140, rfl⟩
abbrev main_v115 : Ref sig .tc := ⟨.hbm, 141, rfl⟩
abbrev main_v116 : Ref sig .tc := ⟨.hbm, 142, rfl⟩
abbrev main_c_14 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_c_15 : Ref sig .tc := ⟨.hbm, 152, rfl⟩
abbrev main_v125 : Ref sig .tc := ⟨.hbm, 153, rfl⟩
abbrev main_v126 : Ref sig .tc := ⟨.hbm, 154, rfl⟩
abbrev main_c_16 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_17 : Ref sig .tc := ⟨.hbm, 167, rfl⟩
abbrev main_call5_v0 : Ref sig .tc := ⟨.hbm, 168, rfl⟩
abbrev main_call5_v1 : Ref sig .tc := ⟨.hbm, 169, rfl⟩
abbrev main_call5_v2 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_cst_18 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_cst_19 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩

abbrev nD : Nat := 1
abbrev τ : Topo := Topo.v7x

variable {F : FTy → Type} [FloatOps F]
-- ==== Experts.lean ====
abbrev S212992x1024 : Shape := ⟨2, ![212992, 1024]⟩
abbrev S416 : Shape := ⟨1, ![416]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S212992x1024, .bf16⟩
  | .hbm, ⟨1, _⟩ => ⟨S32x1024x2048, .bf16⟩
  | .hbm, ⟨2, _⟩ => ⟨S32x1x2048, .f32⟩
  | .hbm, ⟨3, _⟩ => ⟨S32x1024x1024, .bf16⟩
  | .hbm, ⟨4, _⟩ => ⟨S32x1x1024, .f32⟩
  | .hbm, ⟨5, _⟩ => ⟨S212992x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .smem, ⟨0, _⟩ => ⟨S416, .i32⟩
  | .local _ .smem, ⟨1, _⟩ => ⟨S1, .i32⟩
  | _, _ => ⟨S212992x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![416], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S212992x1024 : Shape := ⟨2, ![212992, 1024]⟩
abbrev S416 : Shape := ⟨1, ![416]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S416x512x1024 : Shape := ⟨3, ![416, 512, 1024]⟩
abbrev S_ : Shape := ⟨0, ![]⟩
abbrev S416x1 : Shape := ⟨2, ![416, 1]⟩
abbrev S416x1024x2048 : Shape := ⟨3, ![416, 1024, 2048]⟩
abbrev S416x512x2048 : Shape := ⟨3, ![416, 512, 2048]⟩
abbrev S416x1x2048 : Shape := ⟨3, ![416, 1, 2048]⟩
abbrev S416x1024x1024 : Shape := ⟨3, ![416, 1024, 1024]⟩
abbrev S416x1x1024 : Shape := ⟨3, ![416, 1, 1024]⟩
abbrev S416x1x1 : Shape := ⟨3, ![416, 1, 1]⟩

abbrev nBuf : Space → Nat
  | .hbm => 94
  | .vmem => 0
  | .smem => 0
  | _ => 0

abbrev bufTy : (tb : Table) → Fin (tcTables nBuf tb) → BufTy
  | .hbm, ⟨0, _⟩ => ⟨S212992x1024, .bf16⟩
  | .hbm, ⟨1, _⟩ => ⟨S416, .i32⟩
  | .hbm, ⟨2, _⟩ => ⟨S1, .i32⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S212992x1024, .f32⟩
  | .hbm, ⟨8, _⟩ => ⟨S416x512x1024, .f32⟩
  | .hbm, ⟨9, _⟩ => ⟨S32x1024x2048, .f32⟩
  | .hbm, ⟨10, _⟩ => ⟨S_, .i32⟩
  | .hbm, ⟨11, _⟩ => ⟨S416, .i32⟩
  | .hbm, ⟨12, _⟩ => ⟨S416, .i1⟩
  | .hbm, ⟨13, _⟩ => ⟨S_, .i32⟩
  | .hbm, ⟨14, _⟩ => ⟨S416, .i32⟩
  | .hbm, ⟨15, _⟩ => ⟨S416, .i32⟩
  | .hbm, ⟨16, _⟩ => ⟨S416, .i32⟩
  | .hbm, ⟨17, _⟩ => ⟨S416x1, .i32⟩
  | .hbm, ⟨18, _⟩ => ⟨S416x1024x2048, .f32⟩
  | .hbm, ⟨19, _⟩ => ⟨S416x512x2048, .f32⟩
  | .hbm, ⟨20, _⟩ => ⟨S_, .i32⟩
  | .hbm, ⟨21, _⟩ => ⟨S416, .i32⟩
  | .hbm, ⟨22, _⟩ => ⟨S416, .i1⟩
  | .hbm, ⟨23, _⟩ => ⟨S_, .i32⟩
  | .hbm, ⟨24, _⟩ => ⟨S416, .i32⟩
  | .hbm, ⟨25, _⟩ => ⟨S416, .i32⟩
  | .hbm, ⟨26, _⟩ => ⟨S416, .i32⟩
  | .hbm, ⟨27, _⟩ => ⟨S416x1, .i32⟩
  | .hbm, ⟨28, _⟩ => ⟨S416x1x2048, .f32⟩
  | .hbm, ⟨29, _⟩ => ⟨S416x512x2048, .f32⟩
  | .hbm, ⟨30, _⟩ => ⟨S416x512x2048, .f32⟩
  | .hbm, ⟨31, _⟩ => ⟨S416x512x1024, .f32⟩
  | .hbm, ⟨32, _⟩ => ⟨S_, .f32⟩
  | .hbm, ⟨33, _⟩ => ⟨S416x512x1024, .f32⟩
  | .hbm, ⟨34, _⟩ => ⟨S416x512x1024, .f32⟩
  | .hbm, ⟨35, _⟩ => ⟨S416x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S416x512x1024, .f32⟩
  | .hbm, ⟨40, _⟩ => ⟨S416x512x1024, .f32⟩
  | .hbm, ⟨41, _⟩ => ⟨S_, .f32⟩
  | .hbm, ⟨42, _⟩ => ⟨S416x512x1024, .f32⟩
  | .hbm, ⟨43, _⟩ => ⟨S416x512x1024, .f32⟩
  | .hbm, ⟨44, _⟩ => ⟨S_, .f32⟩
  | .hbm, ⟨45, _⟩ => ⟨S416x512x1024, .f32⟩
  | .hbm, ⟨46, _⟩ => ⟨S416x512x1024, .f32⟩
  | .hbm, ⟨47, _⟩ => ⟨S416x512x1024, .f32⟩
  | .hbm, ⟨48, _⟩ => ⟨S416x512x1024, .f32⟩
  | .hbm, ⟨49, _⟩ => ⟨S_, .f32⟩
  | .hbm, ⟨50, _⟩ => ⟨S416x512x1024, .f32⟩
  | .hbm, ⟨51, _⟩ => ⟨S416x512x1024, .f32⟩
  | .hbm, ⟨52, _⟩ => ⟨S_, .f32⟩
  | .hbm, ⟨53, _⟩ => ⟨S416x512x1024, .f32⟩
  | .hbm, ⟨54, _⟩ => ⟨S416x512x1024, .f32⟩
  | .hbm, ⟨55, _⟩ => ⟨S416x512x1024, .f32⟩
  | .hbm, ⟨56, _⟩ => ⟨S_, .f32⟩
  | .hbm, ⟨57, _⟩ => ⟨S416x512x1024, .f32⟩
  | .hbm, ⟨58, _⟩ => ⟨S416x512x1024, .f32⟩
  | .hbm, ⟨59, _⟩ => ⟨S416x512x1024, .f32⟩
  | .hbm, ⟨60, _⟩ => ⟨S32x1024x1024, .f32⟩
  | .hbm, ⟨61, _⟩ => ⟨S_, .i32⟩
  | .hbm, ⟨62, _⟩ => ⟨S416, .i32⟩
  | .hbm, ⟨63, _⟩ => ⟨S416, .i1⟩
  | .hbm, ⟨64, _⟩ => ⟨S_, .i32⟩
  | .hbm, ⟨65, _⟩ => ⟨S416, .i32⟩
  | .hbm, ⟨66, _⟩ => ⟨S416, .i32⟩
  | .hbm, ⟨67, _⟩ => ⟨S416, .i32⟩
  | .hbm, ⟨68, _⟩ => ⟨S416x1, .i32⟩
  | .hbm, ⟨69, _⟩ => ⟨S416x1024x1024, .f32⟩
  | .hbm, ⟨70, _⟩ => ⟨S416x512x1024, .f32⟩
  | .hbm, ⟨71, _⟩ => ⟨S_, .i32⟩
  | .hbm, ⟨72, _⟩ => ⟨S416, .i32⟩
  | .hbm, ⟨73, _⟩ => ⟨S416, .i1⟩
  | .hbm, ⟨74, _⟩ => ⟨S_, .i32⟩
  | .hbm, ⟨75, _⟩ => ⟨S416, .i32⟩
  | .hbm, ⟨76, _⟩ => ⟨S416, .i32⟩
  | .hbm, ⟨77, _⟩ => ⟨S416, .i32⟩
  | .hbm, ⟨78, _⟩ => ⟨S416x1, .i32⟩
  | .hbm, ⟨79, _⟩ => ⟨S416x1x1024, .f32⟩
  | .hbm, ⟨80, _⟩ => ⟨S416x512x1024, .f32⟩
  | .hbm, ⟨81, _⟩ => ⟨S416x512x1024, .f32⟩
  | .hbm, ⟨82, _⟩ => ⟨S416, .i32⟩
  | .hbm, ⟨83, _⟩ => ⟨S_, .i32⟩
  | .hbm, ⟨84, _⟩ => ⟨S416, .i32⟩
  | .hbm, ⟨85, _⟩ => ⟨S416, .i1⟩
  | .hbm, ⟨86, _⟩ => ⟨S416x1x1, .i1⟩
  | .hbm, ⟨87, _⟩ => ⟨S_, .f32⟩
  | .hbm, ⟨88, _⟩ => ⟨S_, .f32⟩
  | .hbm, ⟨89, _⟩ => ⟨S416x512x1024, .i1⟩
  | .hbm, ⟨90, _⟩ => ⟨S416x512x1024, .f32⟩
  | .hbm, ⟨91, _⟩ => ⟨S416x512x1024, .f32⟩
  | .hbm, ⟨92, _⟩ => ⟨S212992x1024, .f32⟩
  | .hbm, ⟨93, _⟩ => ⟨S212992x1024, .bf16⟩
  | _, _ => ⟨S212992x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Proof.Softmax.lean ====
/- Softmax with a sink over the extended reals: dividing the weighted sum once is dividing every weight. -/
module

public import Idealize.ShloMosaic.PureOps.Ideal
public import Idealize.ShloMosaic.Lib.Pointwise

@[expose] public section

noncomputable section

namespace Cert.Softmax

open Idealize.ShloMosaic

/-- The running maximum of a row of logits, the sink included. -/
def top {n : ℕ} (L : Fin n → EReal) (s : EReal) : EReal := max (Finset.univ.fold max ⊥ L) s

/-- The softmax denominator of a row of logits: the weights' sum and the sink's weight. -/
def den {n : ℕ} (L : Fin n → EReal) (s : EReal) : EReal :=
  (∑ j, Ideal.exp (L j - top L s)) + Ideal.exp (s - top L s)

/-- The attention output with ONE division: the weighted sum of the values times the reciprocal of the denominator. -/
def once {n : ℕ} (L : Fin n → EReal) (s : EReal) (v : Fin n → EReal) : EReal :=
  (∑ j, Ideal.exp (L j - top L s) * v j) * Ideal.div 1 (den L s)

/-- The attention output with every weight divided by the denominator. -/
def each {n : ℕ} (L : Fin n → EReal) (s : EReal) (v : Fin n → EReal) : EReal :=
  ∑ j, Ideal.div (Ideal.exp (L j - top L s)) (den L s) * v j

/-- A nonnegative real factor moves into a finite sum of extended reals. -/
theorem sum_mul_coe {ι : Type} (t : Finset ι) (f : ι → EReal) {r : ℝ} (hr : 0 ≤ r) :
    (∑ j ∈ t, f j) * (r : EReal) = ∑ j ∈ t, f j * (r : EReal) := by
  classical
  induction t using Finset.induction_on with
  | empty => simp
  | insert a t ha ih =>
    rw [Finset.sum_insert ha, Finset.sum_insert ha, ← ih]
    exact EReal.right_distrib_of_nonneg_of_ne_top (by exact_mod_cast hr) (EReal.coe_ne_top r) _ _

/-- The fold of `max` stays below `⊤` when every entry does. -/
theorem fold_max_ne_top {n : ℕ} (L : Fin n → EReal) (hL : ∀ j, L j ≠ ⊤) : Finset.univ.fold max ⊥ L ≠ ⊤ := by
  have : Finset.univ.fold max ⊥ L < ⊤ := by
    rw [Finset.fold_max_lt]
    exact ⟨bot_lt_top, fun j _ => lt_top_iff_ne_top.mpr (hL j)⟩
  exact this.ne

/-- The maximum is a real number when no logit is `⊤` and the sink is real. -/
theorem exists_top {n : ℕ} (L : Fin n → EReal) (s : EReal) (hL : ∀ j, L j ≠ ⊤) (hs : s ≠ ⊤) (hb : s ≠ ⊥) :
    ∃ r : ℝ, top L s = (r : EReal) := by
  have h1 : top L s ≠ ⊤ := by
    unfold top
    rcases max_choice (Finset.univ.fold max ⊥ L) s with h | h <;> rw [h]
    · exact fold_max_ne_top L hL
    · exact hs
  have h2 : top L s ≠ ⊥ := fun h => hb (le_bot_iff.mp (h ▸ le_max_right _ _))
  exact ⟨(top L s).toReal, (EReal.coe_toReal h1 h2).symm⟩

/-- The weight of a logit that is not `⊤` is a nonnegative real. -/
theorem exists_weight (x : EReal) (r : ℝ) (hx : x ≠ ⊤) : ∃ p : ℝ, 0 ≤ p ∧ Ideal.exp (x - (r : EReal)) = (p : EReal) := by
  induction x with
  | bot => exact ⟨0, le_rfl, by simp⟩
  | top => exact absurd rfl hx
  | coe a => exact ⟨Real.exp (a - r), (Real.exp_pos _).le, by rw [← EReal.coe_sub]; rfl⟩

/-- The denominator is a positive real. -/
theorem exists_den {n : ℕ} (L : Fin n → EReal) (s : EReal) (hL : ∀ j, L j ≠ ⊤) (hs : s ≠ ⊤) (hb : s ≠ ⊥) :
    ∃ d : ℝ, 0 < d ∧ den L s = (d : EReal) := by
  obtain ⟨r, hr⟩ := exists_top L s hL hs hb
  choose p hp hpe using fun j => exists_weight (L j) r (hL j)
  obtain ⟨a, rfl⟩ : ∃ a : ℝ, s = (a : EReal) := ⟨s.toReal, (EReal.coe_toReal hs hb).symm⟩
  refine ⟨(∑ j, p j) + Real.exp (a - r), ?_, ?_⟩
  · have := Real.exp_pos (a - r)
    have := Finset.sum_nonneg (s := Finset.univ) fun j _ => hp j
    linarith
  · unfold den
    rw [hr, EReal.coe_add, ← EReal.coe_sub, Ideal.exp_coe]
    congr 1
    rw [Finset.sum_congr rfl fun j _ => hpe j]
    exact (map_sum (⟨⟨((↑) : ℝ → EReal), rfl⟩, EReal.coe_add⟩ : ℝ →+ EReal) p Finset.univ).symm

/-- **One division or one per weight**: with no logit `⊤` and a real sink the two softmax outputs agree, for ANY values `v`, `w`
    that agree wherever the logit is not `⊥` (a masked key's weight is zero, and zero times anything is zero). -/
theorem once_eq_each {n : ℕ} (L : Fin n → EReal) (s : EReal) (hL : ∀ j, L j ≠ ⊤) (hs : s ≠ ⊤) (hb : s ≠ ⊥)
    (v w : Fin n → EReal) (hvw : ∀ j, L j ≠ ⊥ → v j = w j) : once L s v = each L s w := by
  obtain ⟨r, hr⟩ := exists_top L s hL hs hb
  obtain ⟨d, hd, hde⟩ := exists_den L s hL hs hb
  unfold once each
  rw [hde, Ideal.div_coe hd.ne', one_mul, sum_mul_coe _ _ (by positivity)]
  refine Finset.sum_congr rfl fun j _ => ?_
  rw [Ideal.div_coe hd.ne']
  by_cases hj : L j = ⊥
  · rw [hj, hr]
    simp
  · rw [hvw j hj]
    ac_rfl

end Cert.Softmax

end
-- ==== Proof.Block.lean ====
/- What one grid point of the window attention writes, read at an index: a softmax row over the band of keys. -/
module

public import proofs.«01_k».proof.Proof.Gen.KernelIdeal.Value
public import proofs.«01_k».proof.Proof.Softmax
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Softmax

/-- The sixteen-bit pattern of the reductions' start is minus infinity. -/
theorem ofBits_neg_inf : Ideal.ofBits .f32 0xFF800000#32 = ⊥ := by
  simp [Ideal.ofBits, Ideal.ieee]

/-- The queries of the four groups, stacked: row `128 g + r` holds query `r` of group `g`. -/
theorem stacked_apply (q : Vec Ideal S128x512 .bf16) (r : Fin 128) (g : Fin 4) (ρ : Fin 512) (hρ : (ρ : ℕ) = 128 * g + r) (d : Fin 128) :
    k0_pay42 (F := Ideal) q (ix2 ρ d) = q (ix2 r ⟨128 * g + d, by omega⟩) := by
  pointwise [k0_pay42]
  split_ifs <;> exact congrArg q ((ix2_inj ..).2 ⟨Fin.ext (by dsimp only; omega), Fin.ext (by dsimp only; omega)⟩)

/-- A head's output for the 512 stacked rows (four groups of 128 queries) of one block: row `ρ` is the softmax row of its logits. -/
theorem head_apply (q : Vec Ideal S128x512 .bf16) (vb kb : Vec Ideal S384x128 .bf16) (b : Vec Ideal S1x1x512x384 .f32)
    (s : Vec Ideal S1x512x1 .f32) (r : Fin 128) (g : Fin 4) (ρ : Fin 512) (hρ : (ρ : ℕ) = 128 * g + r) (l : Fin 128) :
    k0_pay43 (F := Ideal) q vb kb b s (ix2 ρ l)
      = once (fun j => (∑ d : Fin 128, q (ix2 r ⟨128 * g + d, by omega⟩) * kb (ix2 j d)) + b (ix4 0 0 ρ j))
          (s (ix3 0 ρ 0)) (fun j => vb (ix2 j l)) := by
  pointwise [k0_pay43, stacked_apply q r g ρ hρ]
  rw [ofBits_neg_inf]
  rfl

/-- Which of the three bias tables block `n` of 128 rows takes: 1 at the first block of a sequence, 2 at the last, 0 otherwise
    (the first 256 blocks are eight sequences of 32, the others one of 128). -/
def variant (n : ℕ) : Fin 3 :=
  if n < 256 then (if n % 32 = 0 then 1 else if n % 32 = 31 then 2 else 0)
  else (if n % 128 = 0 then 1 else if n % 128 = 127 then 2 else 0)

/-- The printed choice of the bias table, at the lower head of a pair. -/
theorem off1_eq : ∀ (i : grid0.Coords) (s : Fin 4),
    k0_off1 i (BitVec.ofNat 32 s.val) = ![(variant (4 * (i 0).val + s.val)).val, 0, 0, 0] := by decide +kernel

/-- The printed choice of the bias table, at the upper head of a pair. -/
theorem off2_eq : ∀ (i : grid0.Coords) (s : Fin 4),
    k0_off2 i (BitVec.ofNat 32 s.val) = ![(variant (4 * (i 0).val + s.val)).val, 1, 0, 0] := by decide +kernel

theorem off1_0 (i : grid0.Coords) : k0_off1 i 0#32 = ![(variant (4 * (i 0).val + 0)).val, 0, 0, 0] := off1_eq i 0
theorem off1_1 (i : grid0.Coords) : k0_off1 i 1#32 = ![(variant (4 * (i 0).val + 1)).val, 0, 0, 0] := off1_eq i 1
theorem off1_2 (i : grid0.Coords) : k0_off1 i 2#32 = ![(variant (4 * (i 0).val + 2)).val, 0, 0, 0] := off1_eq i 2
theorem off1_3 (i : grid0.Coords) : k0_off1 i 3#32 = ![(variant (4 * (i 0).val + 3)).val, 0, 0, 0] := off1_eq i 3
theorem off2_0 (i : grid0.Coords) : k0_off2 i 0#32 = ![(variant (4 * (i 0).val + 0)).val, 1, 0, 0] := off2_eq i 0
theorem off2_1 (i : grid0.Coords) : k0_off2 i 1#32 = ![(variant (4 * (i 0).val + 1)).val, 1, 0, 0] := off2_eq i 1
theorem off2_2 (i : grid0.Coords) : k0_off2 i 2#32 = ![(variant (4 * (i 0).val + 2)).val, 1, 0, 0] := off2_eq i 2
theorem off2_3 (i : grid0.Coords) : k0_off2 i 3#32 = ![(variant (4 * (i 0).val + 3)).val, 1, 0, 0] := off2_eq i 3

/-- What a grid point leaves at row `128 s + r`, column `128 g + l` of its block: lanes below 64 are the lower key-value head's softmax row
    (its keys' other lanes zeroed, `k0_pay4`), the others the upper head's (`k0_pay5`), over the keys and values of rows `128 s … 128 s + 383`
    of the band. -/
def tile (i : grid0.Coords) (x0 : Vec Ideal S512x512 .bf16) (x1 : Vec Ideal S128x128 .bf16) (x2 : Vec Ideal S512x128 .bf16)
    (x3 x4 : Vec Ideal S128x128 .bf16) (x5 : Vec Ideal S512x128 .bf16) (x6 : Vec Ideal S128x128 .bf16)
    (x7 : Vec Ideal S3x2x512x384 .f32) (x8 : Vec Ideal S2x512x1 .f32) (s g : Fin 4) (r l : Fin 128) : EReal :=
  if (l : ℕ) < 64 then
    once (fun j : Fin 384 => (∑ d : Fin 128, x0 (ix2 ⟨128 * s + r, by omega⟩ ⟨128 * g + d, by omega⟩)
          * k0_pay4 (F := Ideal) x1 x2 x3 (ix2 ⟨128 * s + j, by omega⟩ d))
        + x7 (ix4 (variant (4 * (i 0).val + s.val)) 0 ⟨128 * g + r, by omega⟩ j))
      (x8 (ix3 0 ⟨128 * g + r, by omega⟩ 0)) (fun j => k0_pay6 (F := Ideal) x4 x5 x6 (ix2 ⟨128 * s + j, by omega⟩ l))
  else
    once (fun j : Fin 384 => (∑ d : Fin 128, x0 (ix2 ⟨128 * s + r, by omega⟩ ⟨128 * g + d, by omega⟩)
          * k0_pay5 (F := Ideal) x1 x2 x3 (ix2 ⟨128 * s + j, by omega⟩ d))
        + x7 (ix4 (variant (4 * (i 0).val + s.val)) 1 ⟨128 * g + r, by omega⟩ j))
      (x8 (ix3 1 ⟨128 * g + r, by omega⟩ 0)) (fun j => k0_pay6 (F := Ideal) x4 x5 x6 (ix2 ⟨128 * s + j, by omega⟩ l))

section Heads
variable (q : Vec Ideal S128x512 .bf16) (vb kb : Vec Ideal S384x128 .bf16) (b : Vec Ideal S1x1x512x384 .f32) (s : Vec Ideal S1x512x1 .f32)

/-! The body's eight head computations (four sub-blocks, two heads) are one function. -/

theorem head0_lo : k0_pay8 (F := Ideal) (k0_pay7 q) vb kb (constant S512x384 .f32 0#32) b s = k0_pay43 q vb kb b s := rfl
theorem head0_hi : k0_pay14 (F := Ideal) vb (k0_pay10 s) (k0_pay11 (k0_pay7 q) kb b s) (k0_pay12 (k0_pay7 q) kb b s) (k0_pay13 (k0_pay7 q) kb b s)
    = k0_pay43 q vb kb b s := rfl
theorem head1_lo : k0_pay20 (F := Ideal) (k0_pay19 q) vb kb b s = k0_pay43 q vb kb b s := rfl
theorem head1_hi : k0_pay24 (F := Ideal) vb (k0_pay21 (k0_pay19 q) kb b) (k0_pay22 s) (k0_pay23 (k0_pay19 q) kb b s) = k0_pay43 q vb kb b s := rfl
theorem head2_lo : k0_pay32 (F := Ideal) q (k0_pay29 q) (k0_pay30 q) vb kb b s = k0_pay43 q vb kb b s := rfl
theorem head2_hi : k0_pay34 (F := Ideal) vb (k0_pay33 q (k0_pay29 q) (k0_pay30 q) kb b) s = k0_pay43 q vb kb b s := rfl
theorem head3_hi : k0_pay46 (F := Ideal) vb (k0_pay44 q kb) (k0_pay45 b) s = k0_pay43 q vb kb b s := rfl

end Heads

/-- The choice between a pair's two heads, by lane. -/
theorem select_lane (l : Fin 128) (a b : EReal) :
    Scalar.select (α := EReal) (IntOp.cmpi CmpIPredicate.slt (BitVec.ofNat 32 l) 64#32) a b = if (l : ℕ) < 64 then a else b := by
  have : IntOp.cmpi CmpIPredicate.slt (BitVec.ofNat 32 l) 64#32 = if (l : ℕ) < 64 then 1#1 else 0#1 :=
    (by decide +kernel : ∀ l : Fin 128, IntOp.cmpi CmpIPredicate.slt (BitVec.ofNat 32 l) 64#32 = if (l : ℕ) < 64 then 1#1 else 0#1) l
  rw [this]
  split_ifs <;> rfl

/-- One bias table, loaded at a computed offset. -/
theorem ld_bias (x7 : Vec Ideal S3x2x512x384 .f32) (off : Fin 4 → ℕ) (inb : ∀ a, off a + ![1, 1, 512, 384] a ≤ S3x2x512x384.size a) (v : Fin 3) (w : Fin 2) (h : off = ![(v : ℕ), (w : ℕ), 0, 0])
    (ρ : Fin 512) (j : Fin 384) :
    View.ld (S := S3x2x512x384) (Val := Elt Ideal) (e' := .f32) x7 (Rect.unit off ![1, 1, 512, 384] inb) (ix4 0 0 ρ j) = x7 (ix4 v w ρ j) := by
  subst h
  refine congrArg x7 ?_
  funext a
  fin_cases a <;> exact Fin.ext (by simp [Rect.emb])

/-- Sub-block `s`'s 128 rows of queries, loaded. -/
theorem ld_query (x0 : Vec Ideal S512x512 .bf16) (o : ℕ) (inb : ∀ a, (![o, 0] : Fin 2 → ℕ) a + ![128, 512] a ≤ S512x512.size a) (s : Fin 4) (h : o = 128 * s) (r : Fin 128) (d : Fin 512) :
    View.ld (S := S512x512) (Val := Elt Ideal) (e' := .bf16) x0 (Rect.unit ![o, 0] ![128, 512] inb) (ix2 r d)
      = x0 (ix2 ⟨128 * s + r, by omega⟩ d) := by
  subst h
  refine congrArg x0 ?_
  funext a
  fin_cases a <;> exact Fin.ext (by simp [Rect.emb])

/-- Sub-block `s`'s 384 rows of a band the point has just stored whole, loaded back. -/
theorem ld_band (v : View sig .tc .vmem S768x128 .bf16) (Z : Vec Ideal S768x128 .bf16) (o : ℕ)
    (inb0 : ∀ a, (![0, 0] : Fin 2 → ℕ) a + ![768, 128] a ≤ S768x128.size a) (inb : ∀ a, (![o, 0] : Fin 2 → ℕ) a + ![384, 128] a ≤ S768x128.size a) (s : Fin 4) (h : o = 128 * s)
    (j : Fin 384) (d : Fin 128) :
    v.readCov (Val := Elt Ideal) [⟨Rect.unit (s := S768x128) ![0, 0] ![768, 128] inb0, Z⟩]
        (Rect.unit (s := S768x128) ![o, 0] ![384, 128] inb).toLoadRect (ix2 j d)
      = Z (ix2 ⟨128 * s + j, by omega⟩ d) := by
  subst h
  refine (congrFun (View.readCov_fill v inb0 Z [] (Rect.unit (s := S768x128) ![128 * (s : ℕ), 0] ![384, 128] inb) (by decide)) (ix2 j d)).trans ?_
  refine congrArg Z ?_
  funext a
  fin_cases a <;> exact Fin.ext (by simp [Rect.emb])

/-- One head's sinks, loaded. -/
theorem ld_sink (x8 : Vec Ideal S2x512x1 .f32) (w : Fin 2) (o : ℕ) (h : o = w) (inb : ∀ a, (![o, 0, 0] : Fin 3 → ℕ) a + ![1, 512, 1] a ≤ S2x512x1.size a) (ρ : Fin 512) :
    View.ld (S := S2x512x1) (Val := Elt Ideal) (e' := .f32) x8 (Rect.unit ![o, 0, 0] ![1, 512, 1] inb) (ix3 0 ρ 0) = x8 (ix3 w ρ 0) := by
  subst h
  refine congrArg x8 ?_
  funext a
  fin_cases a <;> exact Fin.ext (by simp [Rect.emb])

/-- One of the sixteen stores: the two heads' outputs of sub-block `s`, group `g`, chosen by lane, are that tile — whatever the loaded operands
    `Q V KL KH BL BH SL SH` are, so long as they read the staged blocks as stated. -/
theorem piece (i : grid0.Coords) (x0 : Vec Ideal S512x512 .bf16) (x1 : Vec Ideal S128x128 .bf16) (x2 : Vec Ideal S512x128 .bf16)
    (x3 x4 : Vec Ideal S128x128 .bf16) (x5 : Vec Ideal S512x128 .bf16) (x6 : Vec Ideal S128x128 .bf16)
    (x7 : Vec Ideal S3x2x512x384 .f32) (x8 : Vec Ideal S2x512x1 .f32) (s g : Fin 4) (r l : Fin 128)
    (Q : Vec Ideal S128x512 .bf16) (V KL KH : Vec Ideal S384x128 .bf16) (BL BH : Vec Ideal S1x1x512x384 .f32) (SL SH : Vec Ideal S1x512x1 .f32)
    (ρ : Fin 512) (hρ : (ρ : ℕ) = 128 * g + r)
    (hQ : ∀ d : Fin 512, Q (ix2 r d) = x0 (ix2 ⟨128 * s + r, by omega⟩ d))
    (hV : ∀ (j : Fin 384) d, V (ix2 j d) = k0_pay6 (F := Ideal) x4 x5 x6 (ix2 ⟨128 * s + j, by omega⟩ d))
    (hKL : ∀ (j : Fin 384) d, KL (ix2 j d) = k0_pay4 (F := Ideal) x1 x2 x3 (ix2 ⟨128 * s + j, by omega⟩ d))
    (hKH : ∀ (j : Fin 384) d, KH (ix2 j d) = k0_pay5 (F := Ideal) x1 x2 x3 (ix2 ⟨128 * s + j, by omega⟩ d))
    (hBL : ∀ ρ j, BL (ix4 0 0 ρ j) = x7 (ix4 (variant (4 * (i 0).val + s.val)) 0 ρ j))
    (hBH : ∀ ρ j, BH (ix4 0 0 ρ j) = x7 (ix4 (variant (4 * (i 0).val + s.val)) 1 ρ j))
    (hSL : ∀ ρ, SL (ix3 0 ρ 0) = x8 (ix3 0 ρ 0)) (hSH : ∀ ρ, SH (ix3 0 ρ 0) = x8 (ix3 1 ρ 0)) :
    Scalar.select (α := EReal) (IntOp.cmpi CmpIPredicate.slt (BitVec.ofNat 32 l) 64#32)
        (k0_pay43 (F := Ideal) Q V KL BL SL (ix2 ρ l)) (k0_pay43 (F := Ideal) Q V KH BH SH (ix2 ρ l))
      = tile i x0 x1 x2 x3 x4 x5 x6 x7 x8 s g r l := by
  obtain ⟨ρ, hlt⟩ := ρ
  obtain rfl : ρ = 128 * g + r := hρ
  rw [select_lane, head_apply Q V KL BL SL r g _ rfl, head_apply Q V KH BH SH r g _ rfl]
  unfold tile
  simp only [hQ, hV, hKL, hKH, hBL, hBH, hSL, hSH]

set_option maxHeartbeats 2000000 in
/-- **One grid point**: the block the body leaves, read at row `128 s + r` and column `128 g + l`. -/
theorem out_apply (c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)
    (y : S512x512.Idx) (s g : Fin 4) (r l : Fin 128) (hs : (y 0 : ℕ) = 128 * s + r) (hg : (y 1 : ℕ) = 128 * g + l) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y
      = tile i x0 x1 x2 x3 x4 x5 x6 x7 x8 s g r l := by
  frame_out
  canon_tiles x h
  case piece0 =>
    obtain rfl : s = 3 := Fin.ext (by omega)
    obtain rfl : g = 3 := Fin.ext (by omega)
    obtain rfl : r = x 0 := Fin.ext (by omega)
    obtain rfl : l = x 1 := Fin.ext (by omega)
    pointwise [k0_pay1, head3_hi]
    refine piece i x0 x1 x2 x3 x4 x5 x6 x7 x8 3 3 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_3 i) ρ j
    · intro ρ j; exact ld_bias x7 _ _ _ 1 (off2_3 i) ρ j
    · intro ρ; exact ld_sink x8 0 0 rfl _ ρ
    · intro ρ; exact ld_sink x8 1 1 rfl _ ρ
  case piece1 =>
    obtain rfl : s = 3 := Fin.ext (by omega)
    obtain rfl : g = 2 := Fin.ext (by omega)
    obtain rfl : r = x 0 := Fin.ext (by omega)
    obtain rfl : l = x 1 := Fin.ext (by omega)
    pointwise [k0_pay49, head3_hi]
    refine piece i x0 x1 x2 x3 x4 x5 x6 x7 x8 3 2 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_3 i) ρ j
    · intro ρ j; exact ld_bias x7 _ _ _ 1 (off2_3 i) ρ j
    · intro ρ; exact ld_sink x8 0 0 rfl _ ρ
    · intro ρ; exact ld_sink x8 1 1 rfl _ ρ
  case piece2 =>
    obtain rfl : s = 3 := Fin.ext (by omega)
    obtain rfl : g = 1 := Fin.ext (by omega)
    obtain rfl : r = x 0 := Fin.ext (by omega)
    obtain rfl : l = x 1 := Fin.ext (by omega)
    pointwise [k0_pay48, head3_hi]
    refine piece i x0 x1 x2 x3 x4 x5 x6 x7 x8 3 1 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_3 i) ρ j
    · intro ρ j; exact ld_bias x7 _ _ _ 1 (off2_3 i) ρ j
    · intro ρ; exact ld_sink x8 0 0 rfl _ ρ
    · intro ρ; exact ld_sink x8 1 1 rfl _ ρ
  case piece3 =>
    obtain rfl : s = 3 := Fin.ext (by omega)
    obtain rfl : g = 0 := Fin.ext (by omega)
    obtain rfl : r = x 0 := Fin.ext (by omega)
    obtain rfl : l = x 1 := Fin.ext (by omega)
    pointwise [k0_pay47, head3_hi]
    refine piece i x0 x1 x2 x3 x4 x5 x6 x7 x8 3 0 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_3 i) ρ j
    · intro ρ j; exact ld_bias x7 _ _ _ 1 (off2_3 i) ρ j
    · intro ρ; exact ld_sink x8 0 0 rfl _ ρ
    · intro ρ; exact ld_sink x8 1 1 rfl _ ρ
  case piece4 =>
    obtain rfl : s = 2 := Fin.ext (by omega)
    obtain rfl : g = 3 := Fin.ext (by omega)
    obtain rfl : r = x 0 := Fin.ext (by omega)
    obtain rfl : l = x 1 := Fin.ext (by omega)
    pointwise [k0_pay41, k0_pay38, k0_pay39, k0_pay40, head2_lo, head2_hi]
    refine piece i x0 x1 x2 x3 x4 x5 x6 x7 x8 2 3 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_2 i) ρ j
    · intro ρ j; exact ld_bias x7 _ _ _ 1 (off2_2 i) ρ j
    · intro ρ; exact ld_sink x8 0 0 rfl _ ρ
    · intro ρ; exact ld_sink x8 1 1 rfl _ ρ
  case piece5 =>
    obtain rfl : s = 2 := Fin.ext (by omega)
    obtain rfl : g = 2 := Fin.ext (by omega)
    obtain rfl : r = x 0 := Fin.ext (by omega)
    obtain rfl : l = x 1 := Fin.ext (by omega)
    pointwise [k0_pay37, head2_lo, head2_hi]
    refine piece i x0 x1 x2 x3 x4 x5 x6 x7 x8 2 2 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_2 i) ρ j
    · intro ρ j; exact ld_bias x7 _ _ _ 1 (off2_2 i) ρ j
    · intro ρ; exact ld_sink x8 0 0 rfl _ ρ
    · intro ρ; exact ld_sink x8 1 1 rfl _ ρ
  case piece6 =>
    obtain rfl : s = 2 := Fin.ext (by omega)
    obtain rfl : g = 1 := Fin.ext (by omega)
    obtain rfl : r = x 0 := Fin.ext (by omega)
    obtain rfl : l = x 1 := Fin.ext (by omega)
    pointwise [k0_pay36, head2_lo, head2_hi]
    refine piece i x0 x1 x2 x3 x4 x5 x6 x7 x8 2 1 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_2 i) ρ j
    · intro ρ j; exact ld_bias x7 _ _ _ 1 (off2_2 i) ρ j
    · intro ρ; exact ld_sink x8 0 0 rfl _ ρ
    · intro ρ; exact ld_sink x8 1 1 rfl _ ρ
  case piece7 =>
    obtain rfl : s = 2 := Fin.ext (by omega)
    obtain rfl : g = 0 := Fin.ext (by omega)
    obtain rfl : r = x 0 := Fin.ext (by omega)
    obtain rfl : l = x 1 := Fin.ext (by omega)
    pointwise [k0_pay35, head2_lo, head2_hi]
    refine piece i x0 x1 x2 x3 x4 x5 x6 x7 x8 2 0 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_2 i) ρ j
    · intro ρ j; exact ld_bias x7 _ _ _ 1 (off2_2 i) ρ j
    · intro ρ; exact ld_sink x8 0 0 rfl _ ρ
    · intro ρ; exact ld_sink x8 1 1 rfl _ ρ
  case piece8 =>
    obtain rfl : s = 1 := Fin.ext (by omega)
    obtain rfl : g = 3 := Fin.ext (by omega)
    obtain rfl : r = x 0 := Fin.ext (by omega)
    obtain rfl : l = x 1 := Fin.ext (by omega)
    pointwise [k0_pay28, head1_lo, head1_hi]
    refine piece i x0 x1 x2 x3 x4 x5 x6 x7 x8 1 3 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_1 i) ρ j
    · intro ρ j; exact ld_bias x7 _ _ _ 1 (off2_1 i) ρ j
    · intro ρ; exact ld_sink x8 0 0 rfl _ ρ
    · intro ρ; exact ld_sink x8 1 1 rfl _ ρ
  case piece9 =>
    obtain rfl : s = 1 := Fin.ext (by omega)
    obtain rfl : g = 2 := Fin.ext (by omega)
    obtain rfl : r = x 0 := Fin.ext (by omega)
    obtain rfl : l = x 1 := Fin.ext (by omega)
    pointwise [k0_pay27, head1_lo, head1_hi]
    refine piece i x0 x1 x2 x3 x4 x5 x6 x7 x8 1 2 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_1 i) ρ j
    · intro ρ j; exact ld_bias x7 _ _ _ 1 (off2_1 i) ρ j
    · intro ρ; exact ld_sink x8 0 0 rfl _ ρ
    · intro ρ; exact ld_sink x8 1 1 rfl _ ρ
  case piece10 =>
    obtain rfl : s = 1 := Fin.ext (by omega)
    obtain rfl : g = 1 := Fin.ext (by omega)
    obtain rfl : r = x 0 := Fin.ext (by omega)
    obtain rfl : l = x 1 := Fin.ext (by omega)
    pointwise [k0_pay26, head1_lo, head1_hi]
    refine piece i x0 x1 x2 x3 x4 x5 x6 x7 x8 1 1 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_1 i) ρ j
    · intro ρ j; exact ld_bias x7 _ _ _ 1 (off2_1 i) ρ j
    · intro ρ; exact ld_sink x8 0 0 rfl _ ρ
    · intro ρ; exact ld_sink x8 1 1 rfl _ ρ
  case piece11 =>
    obtain rfl : s = 1 := Fin.ext (by omega)
    obtain rfl : g = 0 := Fin.ext (by omega)
    obtain rfl : r = x 0 := Fin.ext (by omega)
    obtain rfl : l = x 1 := Fin.ext (by omega)
    pointwise [k0_pay25, head1_lo, head1_hi]
    refine piece i x0 x1 x2 x3 x4 x5 x6 x7 x8 1 0 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_1 i) ρ j
    · intro ρ j; exact ld_bias x7 _ _ _ 1 (off2_1 i) ρ j
    · intro ρ; exact ld_sink x8 0 0 rfl _ ρ
    · intro ρ; exact ld_sink x8 1 1 rfl _ ρ
  case piece12 =>
    obtain rfl : s = 0 := Fin.ext (by omega)
    obtain rfl : g = 3 := Fin.ext (by omega)
    obtain rfl : r = x 0 := Fin.ext (by omega)
    obtain rfl : l = x 1 := Fin.ext (by omega)
    pointwise [k0_pay18, head0_lo, head0_hi]
    refine piece i x0 x1 x2 x3 x4 x5 x6 x7 x8 0 3 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_0 i) ρ j
    · intro ρ j; exact ld_bias x7 _ _ _ 1 (off2_0 i) ρ j
    · intro ρ; exact ld_sink x8 0 0 rfl _ ρ
    · intro ρ; exact ld_sink x8 1 1 rfl _ ρ
  case piece13 =>
    obtain rfl : s = 0 := Fin.ext (by omega)
    obtain rfl : g = 2 := Fin.ext (by omega)
    obtain rfl : r = x 0 := Fin.ext (by omega)
    obtain rfl : l = x 1 := Fin.ext (by omega)
    pointwise [k0_pay17, head0_lo, head0_hi]
    refine piece i x0 x1 x2 x3 x4 x5 x6 x7 x8 0 2 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_0 i) ρ j
    · intro ρ j; exact ld_bias x7 _ _ _ 1 (off2_0 i) ρ j
    · intro ρ; exact ld_sink x8 0 0 rfl _ ρ
    · intro ρ; exact ld_sink x8 1 1 rfl _ ρ
  case piece14 =>
    obtain rfl : s = 0 := Fin.ext (by omega)
    obtain rfl : g = 1 := Fin.ext (by omega)
    obtain rfl : r = x 0 := Fin.ext (by omega)
    obtain rfl : l = x 1 := Fin.ext (by omega)
    pointwise [k0_pay16, head0_lo, head0_hi]
    refine piece i x0 x1 x2 x3 x4 x5 x6 x7 x8 0 1 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_0 i) ρ j
    · intro ρ j; exact ld_bias x7 _ _ _ 1 (off2_0 i) ρ j
    · intro ρ; exact ld_sink x8 0 0 rfl _ ρ
    · intro ρ; exact ld_sink x8 1 1 rfl _ ρ
  case piece15 =>
    obtain rfl : s = 0 := Fin.ext (by omega)
    obtain rfl : g = 0 := Fin.ext (by omega)
    obtain rfl : r = x 0 := Fin.ext (by omega)
    obtain rfl : l = x 1 := Fin.ext (by omega)
    pointwise [k0_pay15, head0_lo, head0_hi]
    refine piece i x0 x1 x2 x3 x4 x5 x6 x7 x8 0 0 (x 0) (x 1) _ _ _ _ _ _ _ _ _ ?_ ?_ ?_ ?_ ?_ ?_ ?_ ?_ ?_
    · dsimp only [Fin.isValue]; omega
    · intro d; exact ld_query x0 _ _ _ (by decide) (x 0) d
    · intro j d; exact ld_band _ _ _ _ _ _ (by decide) j d
    · intro j d; exact ld_band _ _ _ _ _ _ (by decide) j d
    · intro j d; exact ld_band _ _ _ _ _ _ (by decide) j d
    · intro ρ j; exact ld_bias x7 _ _ _ 0 (off1_0 i) ρ j
    · intro ρ j; exact ld_bias x7 _ _ _ 1 (off2_0 i) ρ j
    · intro ρ; exact ld_sink x8 0 0 rfl _ ρ
    · intro ρ; exact ld_sink x8 1 1 rfl _ ρ

end Cert.KernelIdeal.Block

end
-- ==== Proof.Array.lean ====
/- What the window attention's result array holds: every row a softmax over its block's 384 neighbouring keys. -/
module

public import proofs.«01_k».proof.Proof.Block

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Softmax

variable (m : (ℓ : Loc nD τ sig) → Buf (Elt Ideal) ℓ)

/-- The array row of key `j` of block `n`'s band: the block before, the block itself, the block after; past either end of the array the
    nearest block stands in (its keys are masked). -/
def keyRow (n : Fin 384) (j : Fin 384) : Fin 49152 :=
  if h : (j : ℕ) < 128 then ⟨((n : ℕ) - 1) * 128 + j, by omega⟩
  else if h : (j : ℕ) < 256 then ⟨(n : ℕ) * 128 + (j - 128), by omega⟩
  else ⟨min ((n : ℕ) + 1) 383 * 128 + (j - 256), by omega⟩

theorem keyRow_val (n j : Fin 384) : (keyRow n j : ℕ) = if (j : ℕ) < 128 then (n.val - 1) * 128 + j
    else if (j : ℕ) < 256 then n.val * 128 + (j - 128) else min (n.val + 1) 383 * 128 + (j - 256) := by
  unfold keyRow
  split_ifs <;> rfl

/-- A band of three staged blocks, read at a row: the block before, the tile, the block after. -/
theorem band_apply (a : Vec Ideal S128x128 .bf16) (b : Vec Ideal S512x128 .bf16) (e : Vec Ideal S128x128 .bf16)
    (Z : Vec Ideal S49152x2816 .bf16) (t : Fin 96) (C : ℕ) (hC : C + 128 ≤ 2816)
    (ha : ∀ (i d : Fin 128), a (ix2 i d) = Z (ix2 ⟨(4 * (t : ℕ) - 1) * 128 + i, by omega⟩ ⟨C + d, by omega⟩))
    (hb : ∀ (i : Fin 512) (d : Fin 128), b (ix2 i d) = Z (ix2 ⟨t * 512 + i, by omega⟩ ⟨C + d, by omega⟩))
    (he : ∀ (i d : Fin 128), e (ix2 i d) = Z (ix2 ⟨min (4 * (t : ℕ) + 4) 383 * 128 + i, by omega⟩ ⟨C + d, by omega⟩))
    (s : Fin 4) (j : Fin 384) (d : Fin 128) :
    k0_pay6 (F := Ideal) a b e (ix2 ⟨128 * s + j, by omega⟩ d)
      = Z (ix2 (keyRow ⟨4 * t + s, by omega⟩ j) ⟨C + d, by omega⟩) := by
  pointwise [k0_pay6, ha, hb, he]
  split_ifs <;> exact congrArg Z ((ix2_inj ..).2 ⟨Fin.ext (by rw [keyRow_val]; dsimp only; split_ifs <;> omega), rfl⟩)

/-- The lower head's keys: the band with the lanes from 64 on zeroed. -/
theorem lo_apply (a : Vec Ideal S128x128 .bf16) (b : Vec Ideal S512x128 .bf16) (e : Vec Ideal S128x128 .bf16) (j : Fin 768) (d : Fin 128) :
    k0_pay4 (F := Ideal) a b e (ix2 j d) = if (d : ℕ) < 64 then k0_pay6 (F := Ideal) a b e (ix2 j d) else 0 := by
  pointwise [k0_pay4, k0_pay2, k0_pay3, k0_pay6]
  exact select_lane d _ _

/-- The upper head's keys: the band with the lanes below 64 zeroed. -/
theorem hi_apply (a : Vec Ideal S128x128 .bf16) (b : Vec Ideal S512x128 .bf16) (e : Vec Ideal S128x128 .bf16) (j : Fin 768) (d : Fin 128) :
    k0_pay5 (F := Ideal) a b e (ix2 j d) = if (d : ℕ) < 64 then 0 else k0_pay6 (F := Ideal) a b e (ix2 j d) := by
  pointwise [k0_pay5, k0_pay2, k0_pay3, k0_pay6]
  exact select_lane d _ _

/-- The block indices of the ten windows at grid point `t`. -/
theorem idx : ∀ t : Fin cfg0.N, win0_0.index t = ![t.val, 4] ∧ win0_1.index t = ![4 * t.val - 1, 20] ∧ win0_2.index t = ![t.val, 20]
    ∧ win0_3.index t = ![min (4 * t.val + 4) 383, 20] ∧ win0_4.index t = ![4 * t.val - 1, 21] ∧ win0_5.index t = ![t.val, 21]
    ∧ win0_6.index t = ![min (4 * t.val + 4) 383, 21] ∧ win0_7.index t = ![0, 0, 0, 0] ∧ win0_8.index t = ![0, 0, 0]
    ∧ win0_9.index t = ![t.val, 0] ∧ (grid0.coords t 0).val = t.val :=
  (by decide +kernel : ∀ t : Fin grid0.N, _)

variable (c : Dev nD) (t : Fin cfg0.N)

theorem query_block (y : S512x512.Idx) (R : Fin 49152) (C : Fin 2816) (hR : (R : ℕ) = t.val * 512 + y 0) (hC : (C : ℕ) = 2048 + y 1) :
    X0_0 m c t y = m ((c : Thread nD τ).loc main_arg0) (ix2 R C) := by
  unfold X0_0 Pipeline.Window.fill
  rw [dif_pos (moved0_0 t y)]
  blk_ext [iblk, V, idx t]

/-- The three key windows and the three value windows stage the blocks around tile `t`. -/
theorem key_prev (i d : Fin 128) : (iblk m c 1 t : Vec Ideal S128x128 .bf16) (ix2 i d)
    = m ((c : Thread nD τ).loc main_arg0) (ix2 ⟨(4 * t.val - 1) * 128 + i, by have := lt_of_lt_of_eq t.isLt N_0; omega⟩ ⟨2560 + d, by omega⟩) := by
  blk_ext [iblk, V, idx t]
theorem key_own (i : Fin 512) (d : Fin 128) : (iblk m c 2 t : Vec Ideal S512x128 .bf16) (ix2 i d)
    = m ((c : Thread nD τ).loc main_arg0) (ix2 ⟨t.val * 512 + i, by have := lt_of_lt_of_eq t.isLt N_0; omega⟩ ⟨2560 + d, by omega⟩) := by
  blk_ext [iblk, V, idx t]
theorem key_next (i d : Fin 128) : (iblk m c 3 t : Vec Ideal S128x128 .bf16) (ix2 i d)
    = m ((c : Thread nD τ).loc main_arg0) (ix2 ⟨min (4 * t.val + 4) 383 * 128 + i, by omega⟩ ⟨2560 + d, by omega⟩) := by
  blk_ext [iblk, V, idx t]
theorem value_prev (i d : Fin 128) : (iblk m c 4 t : Vec Ideal S128x128 .bf16) (ix2 i d)
    = m ((c : Thread nD τ).loc main_arg0) (ix2 ⟨(4 * t.val - 1) * 128 + i, by have := lt_of_lt_of_eq t.isLt N_0; omega⟩ ⟨2688 + d, by omega⟩) := by
  blk_ext [iblk, V, idx t]
theorem value_own (i : Fin 512) (d : Fin 128) : (iblk m c 5 t : Vec Ideal S512x128 .bf16) (ix2 i d)
    = m ((c : Thread nD τ).loc main_arg0) (ix2 ⟨t.val * 512 + i, by have := lt_of_lt_of_eq t.isLt N_0; omega⟩ ⟨2688 + d, by omega⟩) := by
  blk_ext [iblk, V, idx t]
theorem value_next (i d : Fin 128) : (iblk m c 6 t : Vec Ideal S128x128 .bf16) (ix2 i d)
    = m ((c : Thread nD τ).loc main_arg0) (ix2 ⟨min (4 * t.val + 4) 383 * 128 + i, by omega⟩ ⟨2688 + d, by omega⟩) := by
  blk_ext [iblk, V, idx t]

/-- The bias and sink tables are staged whole. -/
theorem bias_block (a : Fin 3) (b : Fin 2) (i : Fin 512) (j : Fin 384) :
    (iblk m c 7 t : Vec Ideal S3x2x512x384 .f32) (ix4 a b i j) = V m c main_v18 (ix4 a b i j) := by
  blk_ext [iblk, idx t]
theorem sink_block (b : Fin 2) (i : Fin 512) :
    (iblk m c 8 t : Vec Ideal S2x512x1 .f32) (ix3 b i 0) = V m c main_v14 (ix3 b i 0) := by
  blk_ext [iblk, idx t]

/-- The lanes of a key the head `h` of a pair reads: the lower head the lanes below 64, the upper head the others; zero elsewhere. -/
def lane (h : Fin 2) (d : Fin 128) (x : EReal) : EReal := if (d : ℕ) < 64 ↔ h = 0 then x else 0

/-- The attention's result at row `128 n + r`, group `g`, lane `l`: the softmax row of head `h` (0 for a lane below 64, else 1) over block `n`'s band. -/
def attended (Z : Vec Ideal S49152x2816 .bf16) (B : Vec Ideal S3x2x512x384 .f32) (S : Vec Ideal S2x512x1 .f32)
    (n : Fin 384) (r : Fin 128) (g : Fin 4) (l : Fin 128) (h : Fin 2) : EReal :=
  once (fun j : Fin 384 => (∑ d : Fin 128, Z (ix2 ⟨128 * n + r, by omega⟩ ⟨2048 + (128 * g + d), by omega⟩)
        * lane h d (Z (ix2 (keyRow n j) ⟨2560 + d, by omega⟩)))
      + B (ix4 (variant n) h ⟨128 * g + r, by omega⟩ j))
    (S (ix3 h ⟨128 * g + r, by omega⟩ 0)) (fun j => Z (ix2 (keyRow n j) ⟨2688 + l, by omega⟩))

/-- The whole result array. -/
def result (Z : Vec Ideal S49152x2816 .bf16) (B : Vec Ideal S3x2x512x384 .f32) (S : Vec Ideal S2x512x1 .f32) : Vec Ideal S49152x512 .bf16 :=
  fun i => attended Z B S ⟨(i 0 : ℕ) / 128, by have : (i 0 : ℕ) < 49152 := (i 0).isLt; omega⟩ ⟨(i 0 : ℕ) % 128, by omega⟩
    ⟨(i 1 : ℕ) / 128, by have : (i 1 : ℕ) < 512 := (i 1).isLt; omega⟩ ⟨(i 1 : ℕ) % 128, by omega⟩ (if (i 1 : ℕ) % 128 < 64 then 0 else 1)

/-- One tile of a grid point's block, in the arguments' terms. -/
theorem tile_eq (s g : Fin 4) (r l : Fin 128) :
    tile (grid0.coords t) (X0_0 m c t) (iblk m c 1 t) (iblk m c 2 t) (iblk m c 3 t) (iblk m c 4 t) (iblk m c 5 t) (iblk m c 6 t) (iblk m c 7 t)
        (iblk m c 8 t) s g r l
      = attended (m ((c : Thread nD τ).loc main_arg0)) (V m c main_v18) (V m c main_v14)
          ⟨4 * t.val + s, by have := lt_of_lt_of_eq t.isLt N_0; omega⟩ r g l (if (l : ℕ) < 64 then 0 else 1) := by
  have ht : t.val < 96 := lt_of_lt_of_eq t.isLt N_0
  have hq : ∀ d : Fin 128, X0_0 m c t (ix2 ⟨128 * s + r, by omega⟩ ⟨128 * g + d, by omega⟩)
      = m ((c : Thread nD τ).loc main_arg0) (ix2 ⟨128 * (4 * t.val + s) + r, by omega⟩ ⟨2048 + (128 * g + d), by omega⟩) := fun d =>
    query_block m c t _ _ _ (by simp only [ix2_0]; omega) (by simp only [ix2_1])
  have hk := band_apply (iblk m c 1 t) (iblk m c 2 t) (iblk m c 3 t) (m ((c : Thread nD τ).loc main_arg0)) ⟨t.val, ht⟩ 2560 (by omega)
    (key_prev m c t) (key_own m c t) (key_next m c t) s
  have hv := band_apply (iblk m c 4 t) (iblk m c 5 t) (iblk m c 6 t) (m ((c : Thread nD τ).loc main_arg0)) ⟨t.val, ht⟩ 2688 (by omega)
    (value_prev m c t) (value_own m c t) (value_next m c t) s
  unfold tile attended
  simp only [lo_apply, hi_apply, hq, hk, hv, bias_block, sink_block, (idx t).2.2.2.2.2.2.2.2.2.2]
  by_cases hl : (l : ℕ) < 64
  · simp only [hl, if_true, lane, iff_true]
  · have h1 : ∀ d : Fin 128, ((d : ℕ) < 64 ↔ (1 : Fin 2) = 0) ↔ ¬ (d : ℕ) < 64 := fun d => by simp
    simp only [hl, if_false, lane, h1, ite_not]

/-- **The kernel's result array**, whole. -/
theorem final (c : Dev nD) : (dats m 0 c).arrAt 9 (cfgs 0).N
    = result (m ((c : Thread nD τ).loc main_arg0)) (V m c main_v18) (V m c main_v14) := by
  refine (dats m 0 c).arrAt_eq_of_covers 9 _ (by decide +kernel) fun t hf y => ?_
  have ht : t.val < 96 := lt_of_lt_of_eq t.isLt N_0
  blk_simp
  rw [after0_9]
  unfold outsAt0
  idx_vars y
  rw [out_apply _ _ _ _ _ _ _ _ _ _ _ _ _ _ _ _ _ _ _ _ _ _ _ _ _ _ _ _ _ _ _ _ _ _ _ _ _ (ix2 y0 y1)
    ⟨y0 / 128, by omega⟩ ⟨y1 / 128, by omega⟩ ⟨y0 % 128, by omega⟩ ⟨y1 % 128, by omega⟩ (by simp only [ix2_0]; omega) (by simp only [ix2_1]; omega), tile_eq]
  have e : ((View.whole main_v19).slice (win0_9.rect t)).emb (ix2 y0 y1) = ix2 ⟨t.val * 512 + y0, by omega⟩ y1 := by
    blk_ext [idx t]
  rw [e]
  unfold result attended
  have h1 : (t.val * 512 + y0) / 128 = 4 * t.val + y0 / 128 := by omega
  have h2 : (t.val * 512 + y0) % 128 = y0 % 128 := by omega
  simp only [ix2_0, ix2_1, h1, h2]
  rfl

end Cert.KernelIdeal.Block

end
-- ==== Proof.Literals.lean ====
/- The two programs print the same bucket table and the same window mask; the kernel's two end masks cover the first and the last
   block. -/
module

public import proofs.«01_k».proof.KernelIdeal
public import proofs.«01_k».proof.ReferenceIdeal

@[expose] public section

set_option maxRecDepth 16384

noncomputable section

namespace Cert.Literals

/-- The bucket tables agree. -/
theorem buckets : KernelIdeal.lit0 = ReferenceIdeal.lit1 := rfl

/-- The window masks agree. -/
theorem near : KernelIdeal.lit1 = ReferenceIdeal.lit0 := rfl

/-- The first block's mask hides the keys before it. -/
theorem first_mask : ∀ j : Fin 384, KernelIdeal.lit2 j = if (j : ℕ) < 128 then 1#1 else 0#1 := by decide +kernel

/-- The last block's mask hides the keys after it. -/
theorem last_mask : ∀ j : Fin 384, KernelIdeal.lit3 j = if 256 ≤ (j : ℕ) then 1#1 else 0#1 := by decide +kernel

end Cert.Literals
-- ==== Proof.Tables.lean ====
/- The bias and sink tables the kernel's host lines prepare, read at an index. -/
module

public import proofs.«01_k».proof.Proof.Array
public import proofs.«01_k».proof.Proof.Literals

@[expose] public section

set_option maxRecDepth 16384

noncomputable section

open Idealize.ShloMosaic Idealize.ShloMosaic.TcCoe Idealize.SL.Sem

namespace Cert.KernelIdeal.Block
open Cert.KernelIdeal Cert.KernelIdeal.Gen

variable (m : (ℓ : Loc nD τ sig) → Buf (Elt Ideal) ℓ) (c : Dev nD)

/-- The bias table before masking: row `r`, key `j`, head. -/
def bucketed (rb : Vec Ideal S32x8 .f32) : Vec Ideal S128x384x8 .f32 :=
  Host.gather gather_S32x8_S128x384x1_S128x384x8_2_0_n_n_0_2_18 rb
    (broadcastInDim S128x384x1 ![0, 1] bcast_S128x384_S128x384x1_0_1
      (select (constantI S128x384 1 0#1)
        (addi (fun i => lit0 (S128x384.rowMajor i)) (broadcastInDim S128x384 ![] bcast_S_S128x384 (constantI S_ 32 32#32)))
        fun i => lit0 (S128x384.rowMajor i)))

/-- Key `j` is hidden from row `r` in variant `a`: outside the window, or in the first block's missing predecessor, or in the last
    block's missing successor. -/
def hidden (a : Fin 3) (r : Fin 128) (j : Fin 384) : Prop :=
  lit1 (S128x384.rowMajor (ix2 r j)) = 0#1 ∨ (a = 1 ∧ (j : ℕ) < 128) ∨ (a = 2 ∧ 256 ≤ (j : ℕ))

/-- The sink table holds head `4 h + g`'s sink on every row. -/
theorem sink_entry (h : Fin 2) (g : Fin 4) (r : Fin 128) :
    (V m c main_v14 : Vec Ideal S2x512x1 .f32) (ix3 h ⟨128 * g + r, by omega⟩ 0) = (m ((c : Thread nD τ).loc main_arg2) : Vec Ideal S1x8 .f32) (ix2 (0 : Fin 1) ⟨4 * h + g, by omega⟩) := by
  unfold V
  simp only [hostOps0, hostOps0_1, hostOps0_2, hostOps0_3, hostOps0_4, hostOps0_5, hostOps0_6, List.flatten_cons, List.flatten_nil, List.append_nil, List.cons_append, List.nil_append,
    StableHlo.TRef.ternary, StableHlo.TRef.unary, StableHlo.TRef.toBuf, StableHlo.TRef.ofBuf, cast_eq]
  after_results_simp
  pointwise
  exact congrArg (m ((c : Thread nD τ).loc main_arg2) : Vec Ideal S1x8 .f32) ((ix2_inj ..).2 ⟨rfl, Fin.ext (by dsimp only; omega)⟩)

/-- The position of `(0, 0, j)` in row-major order. -/
theorem flat (j : Fin 384) : S1x1x384.rowMajor (ix3 0 0 j) = j :=
  Fin.ext ((Shape.rowMajor_val_three (ix3 0 0 j)).trans (by simp))

/-- Where a mask bit is one the first operand, else the second. -/
theorem select_bit {α : Type} (b : BitVec 1) (x y : α) : Scalar.select b x y = if b = 0#1 then y else x := by
  rcases (by decide +revert : b = 0#1 ∨ b = 1#1) with h | h <;> subst h <;> rfl

/-- The bias table holds minus infinity at a hidden key, else the bucket's bias of head `4 h + g`. -/
theorem bias_entry (a : Fin 3) (h : Fin 2) (g : Fin 4) (r : Fin 128) (j : Fin 384) [Decidable (hidden a r j)] :
    (V m c main_v18 : Vec Ideal S3x2x512x384 .f32) (ix4 a h ⟨128 * g + r, by omega⟩ j)
      = if hidden a r j then ⊥ else bucketed (m ((c : Thread nD τ).loc main_arg1)) (ix3 r j ⟨4 * h + g, by omega⟩) := by
  unfold V
  simp only [hostOps0, hostOps0_1, hostOps0_2, hostOps0_3, hostOps0_4, hostOps0_5, hostOps0_6, List.flatten_cons, List.flatten_nil, List.append_nil, List.cons_append, List.nil_append,
    StableHlo.TRef.ternary, StableHlo.TRef.unary, StableHlo.TRef.toBuf, StableHlo.TRef.ofBuf, cast_eq]
  after_results_simp
  dsimp only [Matrix.cons_val]
  after_results_simp
  pointwise
  have e1 : (⟨(128 * (g : ℕ) + r) % 128, by omega⟩ : Fin 128) = r := Fin.ext (by dsimp only; omega)
  have e2 : (⟨(h : ℕ) * 4 + (128 * g + r) / 128, by omega⟩ : Fin 8) = ⟨4 * h + g, by omega⟩ := Fin.ext (by dsimp only; omega)
  have hb : (id (constant (F := Ideal) S_ FTy.f32 4286578688#32) ix0 : EReal) = ⊥ := ofBits_neg_inf
  have hj2 : lit2 (S1x1x384.rowMajor (ix3 0 0 j)) = if (j : ℕ) < 128 then 1#1 else 0#1 := by
    rw [flat]; exact Literals.first_mask j
  have hj3 : lit3 (S1x1x384.rowMajor (ix3 0 0 j)) = if 256 ≤ (j : ℕ) then 1#1 else 0#1 := by
    rw [flat]; exact Literals.last_mask j
  simp only [select_bit, e1, e2, hb, hj2, hj3]
  rw [show bucketed (m ((c : Thread nD τ).loc main_arg1)) = bucketed (m (c, Proc.tc.devRef main_arg1)) from rfl]
  unfold bucketed
  generalize Host.gather gather_S32x8_S128x384x1_S128x384x8_2_0_n_n_0_2_18 _ _ _ = G
  by_cases h0 : lit1 (S128x384.rowMajor (ix2 r j)) = 0#1 <;> by_cases h1 : (j : ℕ) < 128 <;> by_cases h2 : 256 ≤ (j : ℕ) <;>
    rcases (by decide : ∀ a : Fin 3, a = 0 ∨ a = 1 ∨ a = 2) a with rfl | rfl | rfl <;> simp [hidden, h0, h1, h2]

end Cert.KernelIdeal.Block
-- ==== Proof.Rows.lean ====
/- Reductions along the last of six axes, read at an index. -/
module

public import proofs.«01_k».proof.Proof.Softmax
public import proofs.«01_k».proof.Proof.Gen.ReferenceIdeal.Run

@[expose] public section

noncomputable section

open Idealize.ShloMosaic

namespace Cert.Rows

variable {n0 n1 n2 n3 n4 n5 : ℕ}

/-- The positions a last-axis reduction sends to `(b, n, h, g, r)` are that row's. -/
theorem fiber (w : (⟨6, ![n0, n1, n2, n3, n4, n5]⟩ : Shape).ReducesTo [5] ⟨5, ![n0, n1, n2, n3, n4]⟩)
    (b : Fin n0) (n : Fin n1) (h : Fin n2) (g : Fin n3) (r : Fin n4) (i : (⟨6, ![n0, n1, n2, n3, n4, n5]⟩ : Shape).Idx) :
    w.drop i = ix5 b n h g r ↔ ∃ k : Fin n5, ix6 b n h g r k = i := by
  constructor
  · intro e
    refine ⟨i 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

/-- Minus infinity's bit pattern. -/
theorem neg_inf : Ideal.ofBits .f32 0xFF800000#32 = ⊥ := by
  simp [Ideal.ofBits, Ideal.ieee]

/-- The host's sum along the last axis, from zero. -/
theorem sum (w : (⟨6, ![n0, n1, n2, n3, n4, n5]⟩ : Shape).ReducesTo [5] ⟨5, ![n0, n1, n2, n3, n4]⟩)
    (x : FVec Ideal ⟨6, ![n0, n1, n2, n3, n4, n5]⟩ .f32) {u : Shape} (hu : 0 < u.numel)
    (b : Fin n0) (n : Fin n1) (h : Fin n2) (g : Fin n3) (r : Fin n4) :
    Host.reduceAdd x (constant u .f32 0x00000000#32 : FVec Ideal u .f32) w hu (ix5 b n h g r) = ∑ k : Fin n5, x (ix6 b n h g r k) :=
  (congrArg₂ (· + ·) (Ideal.ofBits_zero .f32 : Ideal.ofBits .f32 0x00000000#32 = (0 : EReal))
    (Finset.sum_filter_eq_sum_of_fiber _ (fun k : Fin n5 => ix6 b n h g r k) (fun _ _ e => congrFun e 5) (fiber w b n h g r) x)).trans
    (zero_add _)

/-- The host's maximum along the last axis, from minus infinity. -/
theorem top (w : (⟨6, ![n0, n1, n2, n3, n4, n5]⟩ : Shape).ReducesTo [5] ⟨5, ![n0, n1, n2, n3, n4]⟩)
    (x : FVec Ideal ⟨6, ![n0, n1, n2, n3, n4, n5]⟩ .f32) {u : Shape} (hu : 0 < u.numel)
    (b : Fin n0) (n : Fin n1) (h : Fin n2) (g : Fin n3) (r : Fin n4) :
    Host.reduce FloatOps.maximumf x (constant u .f32 0xFF800000#32 : FVec Ideal u .f32) w hu (ix5 b n h g r)
      = (Finset.univ : Finset (Fin n5)).fold (max : EReal → EReal → EReal) ⊥ (fun k => x (ix6 b n h g r k)) :=
  ((Host.reduce_eq_fold (Max.max : EReal → EReal → EReal) x (constant u .f32 0xFF800000#32 : FVec Ideal u .f32) w hu _).trans
    (Finset.fold_filter_eq_fold_of_fiber (Max.max : EReal → EReal → EReal) _ (fun k : Fin n5 => ix6 b n h g r k) (fun _ _ e => congrFun e 5)
      (fiber w b n h g r) _ x)).trans
    (congrArg (fun z => (Finset.univ : Finset (Fin n5)).fold (max : EReal → EReal → EReal) z (fun k => x (ix6 b n h g r k))) neg_inf)

end Cert.Rows

namespace Cert.ReferenceIdeal.Bias

open Cert.ReferenceIdeal Cert.ReferenceIdeal.Gen Cert.ReferenceIdeal.Value

/-- The bias of every row, key and head: the bias array at the pair's bucket. -/
def bucketed (rb : Vec Ideal S32x8 .f32) : Vec Ideal S128x384x8 .f32 :=
  Host.gather gather_S32x8_S128x384x1_S128x384x8_2_0_n_n_0_2_18 rb
    (broadcastInDim S128x384x1 ![0, 1] bcast_S128x384_S128x384x1_0_1
      (select (constantI S128x384 1 0#1)
        (addi (fun i => lit1 (S128x384.rowMajor i)) (broadcastInDim S128x384 ![] bcast_S_S128x384 (constantI S_ 32 32#32)))
        fun i => lit1 (S128x384.rowMajor i)))

/-- Head `4 h + g`'s bias at row `r`, key `j`. -/
theorem bias_apply (V0 : Valuation τ sig (Elt Ideal)) (h : Fin 2) (g : Fin 4) (r : Fin 128) (j : Fin 384) :
    (res_main_v6 V0 : Vec Ideal S2x4x128x384 .f32) (ix4 h g r j)
      = bucketed (V0 (Proc.devRef .tc main_arg1)) (ix3 r j ⟨4 * h + g, by omega⟩) := by
  have e : (res_main_v6 V0 : Vec Ideal S2x4x128x384 .f32) = shapeCast _ (transpose S8x128x384 [2, 0, 1] (bucketed (V0 (Proc.devRef .tc main_arg1)))
      transposes_S128x384x8_S8x128x384_2_0_1) shapeCasts_S8x128x384_S2x4x128x384 := rfl
  rw [e]
  generalize bucketed (V0 (Proc.devRef .tc main_arg1)) = x
  pointwise
  exact congrArg x ((ix3_inj ..).2 ⟨rfl, rfl, Fin.ext (by dsimp only; omega)⟩)

end Cert.ReferenceIdeal.Bias
-- ==== Proof.Prompt.lean ====
/- The reference's attention of one group of sequences (8 of 4096 rows), read at an index. -/
module

public import proofs.«01_k».proof.Proof.Gen.ReferenceIdeal.Run
public import proofs.«01_k».proof.Proof.Rows

@[expose] public section

set_option maxRecDepth 16384

noncomputable section

open Idealize.ShloMosaic Idealize.ShloMosaic.TcCoe Idealize.SL.Sem

namespace Cert.ReferenceIdeal.Prompt

open Cert.ReferenceIdeal Cert.ReferenceIdeal.Gen Cert.ReferenceIdeal.Value Cert.Softmax

/-- The three shifted copies of a padded array, side by side: every block's band of keys. -/
def band (t : FVec Ideal S8x4352x2x64 .f32) : FVec Ideal S8x32x384x2x64 .f32 :=
  (concatenate S8x32x384x2x64 2 [⟨S8x32x128x2x64, ((shapeCast _ (extractStridedSlice S8x4096x2x64 ![0, 0, 0, 0] t slices_S8x4352x2x64_S8x4096x2x64_0_0_0_0) shapeCasts_S8x4096x2x64_S8x32x128x2x64) : (⟨S8x32x128x2x64, .f32⟩ : BufTy).Contents (Elt Ideal))⟩, ⟨S8x32x128x2x64, ((shapeCast _ (extractStridedSlice S8x4096x2x64 ![0, 128, 0, 0] t slices_S8x4352x2x64_S8x4096x2x64_0_128_0_0) shapeCasts_S8x4096x2x64_S8x32x128x2x64) : (⟨S8x32x128x2x64, .f32⟩ : BufTy).Contents (Elt Ideal))⟩, ⟨S8x32x128x2x64, ((shapeCast _ (extractStridedSlice S8x4096x2x64 ![0, 256, 0, 0] t slices_S8x4352x2x64_S8x4096x2x64_0_256_0_0) shapeCasts_S8x4096x2x64_S8x32x128x2x64) : (⟨S8x32x128x2x64, .f32⟩ : BufTy).Contents (Elt Ideal))⟩] concatenates_S8x32x128x2x64_S8x32x128x2x64_S8x32x128x2x64_S8x32x384x2x64_d2 : (⟨S8x32x384x2x64, .f32⟩ : BufTy).Contents (Elt Ideal))

/-- Key `j` of block `n`'s band is row `128 n + j` of the padded sequence. -/
theorem band_apply (t : Vec Ideal S8x4352x2x64 .f32) (b : Fin 8) (n : Fin 32) (j : Fin 384) (h : Fin 2) (d : Fin 64) :
    band t (ix5 b n j h d) = t (ix4 b ⟨128 * n + j, by omega⟩ h d) := by
  pointwise [band]
  split_ifs <;> exact congrArg t ((ix4_inj ..).2 ⟨rfl, Fin.ext (by dsimp only; omega), rfl, rfl⟩)

/-- The argument's row behind row `p` of batch `b`'s padded sequence. -/
def row (b : Fin 8) (p : ℕ) : Fin 49152 := ⟨min (0 + 4096 * b + (p - 128)) 49151, by omega⟩

variable (V0 : Valuation τ sig (Elt Ideal))

/-- The argument, the bucketed bias table and the sinks. -/
abbrev argZ : Vec Ideal S49152x2816 .bf16 := V0 (Proc.devRef .tc main_arg0)
abbrev argS : Vec Ideal S1x8 .f32 := V0 (Proc.devRef .tc main_arg2)

theorem key_apply (b : Fin 8) (p : Fin 4352) (h : Fin 2) (d : Fin 64) :
    (res_main_v19 V0 : Vec Ideal S8x4352x2x64 .f32) (ix4 b p h d)
      = if 128 ≤ (p : ℕ) ∧ (p : ℕ) < 4224 then argZ V0 (ix2 (row b p) ⟨2560 + (64 * h + d), by omega⟩) else 0 := by
  pointwise [res_main_v19, res_main_v7, res_main_v8, res_main_v9]
  by_cases hp : 128 ≤ (p : ℕ) ∧ (p : ℕ) < 4224
  · rw [dif_pos (by omega), if_pos hp]
    exact congrArg (argZ V0) ((ix2_inj ..).2 ⟨Fin.ext (by dsimp only [row]; omega), Fin.ext (by dsimp only; omega)⟩)
  · rw [dif_neg (by omega), if_neg hp]
    simp [FloatOps.sitofp]

theorem sink_apply (b : Fin 8) (n : Fin 32) (h : Fin 2) (g : Fin 4) :
    (res_main_v64 V0 : Vec Ideal S2x4x1 .f32) (ix3 h g 0) = argS V0 (ix2 (0 : Fin 1) ⟨4 * h + g, by omega⟩) := by
  pointwise [res_main_v64]
  exact congrArg (argS V0) ((ix2_inj ..).2 ⟨rfl, Fin.ext (by dsimp only; omega)⟩)

/-- The products of one query with its block's keys. -/
def scores (K : FVec Ideal S8x32x384x2x64 .f32) (Q : FVec Ideal S8x32x128x2x4x64 .f32) : FVec Ideal S8x32x2x4x128x384 .f32 :=
  (transpose S8x32x2x4x128x384 [0, 1, 2, 5, 4, 3] (Host.dotGeneral dot_S8x32x384x2x64_S8x32x128x2x4x64_S8x32x2x384x128x4_4_5_2_24_013_013 none (K) Q) transposes_S8x32x2x384x128x4_S8x32x2x4x128x384_0_1_2_5_4_3)

theorem scores_apply (K : FVec Ideal S8x32x384x2x64 .f32) (Q : FVec Ideal S8x32x128x2x4x64 .f32) (b : Fin 8) (n : Fin 32) (h : Fin 2) (g : Fin 4) (r : Fin 128) (j : Fin 384) :
    scores K Q (ix6 b n h g r j) = ∑ d : Fin 64, K (ix5 b n j h d) * Q (ix6 b n r h g d) := by
  pointwise [scores]

/-- The queries, by sequence, block, row, key head and group. -/
def query : FVec Ideal S8x32x128x2x4x64 .f32 :=
  (shapeCast _ (transpose S8x4096x2x4x64 [0, 1, 3, 2, 4] (shapeCast _ (extractStridedSlice S32768x512 ![0, 2048] (res_main_v8 V0) slices_S32768x2816_S32768x512_0_2048) shapeCasts_S32768x512_S8x4096x4x2x64) transposes_S8x4096x4x2x64_S8x4096x2x4x64_0_1_3_2_4) shapeCasts_S8x4096x2x4x64_S8x32x128x2x4x64)

theorem query_apply (b : Fin 8) (n : Fin 32) (r : Fin 128) (h : Fin 2) (g : Fin 4) (d : Fin 64) :
    query V0 (ix6 b n r h g d) = argZ V0 (ix2 ⟨0 + 4096 * b + 128 * n + r, by omega⟩ ⟨2048 + (128 * g + 64 * h + d), by omega⟩) := by
  pointwise [query, res_main_v7, res_main_v8, res_main_v9]
  exact congrArg (argZ V0) ((ix2_inj ..).2 ⟨Fin.ext (by dsimp only; omega), Fin.ext (by dsimp only; omega)⟩)

/-- Where a key is seen: inside the window and inside the sequence. -/
def window : IVec S8x32x2x4x128x384 1 :=
  (broadcastInDim S8x32x2x4x128x384 ![0, 1, 2, 3, 4, 5] bcast_S1x32x1x1x128x384_S8x32x2x4x128x384_0_1_2_3_4_5 (broadcastInDim S1x32x1x1x128x384 ![1, 4, 5] bcast_S32x128x384_S1x32x1x1x128x384_1_4_5 (andi (broadcastInDim S32x128x384 ![0, 1, 2] bcast_S1x128x384_S32x128x384_0_1_2 (broadcastInDim S1x128x384 ![1, 2] bcast_S128x384_S1x128x384_1_2 (res_main_c V0))) (broadcastInDim S32x128x384 ![0, 1, 2] bcast_S32x1x384_S32x128x384_0_1_2 (broadcastInDim S32x1x384 ![0, 2] bcast_S32x384_S32x1x384_0_2 (andi (cmpi .sge (res_main_v47 V0) (broadcastInDim S32x384 ![] bcast_S_S32x384 (constantI S_ 32 0#32))) (cmpi .slt (res_main_v47 V0) (broadcastInDim S32x384 ![] bcast_S_S32x384 (constantI S_ 32 4096#32)))))))))

/-- Key `j` of block `n` lies before the sequence or after it. -/
def outside (n : Fin 32) (j : Fin 384) : Prop := 128 * (n : ℕ) + j < 128 ∨ 4224 ≤ 128 * (n : ℕ) + j

instance (n : Fin 32) (j : Fin 384) : Decidable (outside n j) := by unfold outside; infer_instance

/-- The mask's arithmetic on positions says whether the key lies inside the sequence. -/
theorem inside : ∀ (n : Fin 32) (j : Fin 384),
    IntOp.andi
        (IntOp.cmpi CmpIPredicate.sge
          (IntOp.addi (IntOp.subi (IntOp.muli (BitVec.ofNat 32 ↑n) 128#32) 128#32) (BitVec.ofNat 32 ↑j)) 0#32)
        (IntOp.cmpi CmpIPredicate.slt
          (IntOp.addi (IntOp.subi (IntOp.muli (BitVec.ofNat 32 ↑n) 128#32) 128#32) (BitVec.ofNat 32 ↑j)) 4096#32)
      = if outside n j then 0#1 else 1#1 := by
  decide +kernel

theorem window_apply (b : Fin 8) (n : Fin 32) (h : Fin 2) (g : Fin 4) (r : Fin 128) (j : Fin 384) :
    window V0 (ix6 b n h g r j) = if outside n j then 0#1 else lit0 (S128x384.rowMajor (ix2 r j)) := by
  pointwise [window, res_main_v47, res_main_c]
  rw [inside]
  by_cases ho : outside n j
  · rw [if_pos ho, if_pos ho]
    exact BitVec.and_zero
  · rw [if_neg ho, if_neg ho]
    exact (BitVec.and_allOnes : lit0 (S128x384.rowMajor (ix2 r j)) &&& BitVec.allOnes 1 = _)

/-- The logits: the products and the bias, minus infinity where the key is not seen. -/
def logits (M : IVec S8x32x2x4x128x384 1) (L : FVec Ideal S8x32x2x4x128x384 .f32) (T : FVec Ideal S2x4x128x384 .f32) : FVec Ideal S8x32x2x4x128x384 .f32 :=
  select M (addf L (broadcastInDim S8x32x2x4x128x384 ![0, 1, 2, 3, 4, 5] bcast_S1x1x2x4x128x384_S8x32x2x4x128x384_0_1_2_3_4_5 (broadcastInDim S1x1x2x4x128x384 ![2, 3, 4, 5] bcast_S2x4x128x384_S1x1x2x4x128x384_2_3_4_5 T))) (broadcastInDim S8x32x2x4x128x384 ![] bcast_S_S8x32x2x4x128x384 (constant S_ .f32 0xFF800000#32 : FVec Ideal S_ .f32))

theorem logits_apply (M : IVec S8x32x2x4x128x384 1) (L : FVec Ideal S8x32x2x4x128x384 .f32) (T : FVec Ideal S2x4x128x384 .f32)
    (b : Fin 8) (n : Fin 32) (h : Fin 2) (g : Fin 4) (r : Fin 128) (j : Fin 384) :
    logits M L T (ix6 b n h g r j) = Scalar.select (M (ix6 b n h g r j)) (L (ix6 b n h g r j) + T (ix4 h g r j)) ⊥ := by
  pointwise [logits]
  rw [Rows.neg_inf]

theorem logits_eq : res_main_v62 V0 = logits (window V0) (scores (band (res_main_v19 V0)) (query V0)) (res_main_v6 V0) := rfl

/-- The larger of the rows' maxima and the sinks. -/
def peakOf (X : FVec Ideal S8x32x2x4x128 .f32) (T : FVec Ideal S2x4x1 .f32) : FVec Ideal S8x32x2x4x128 .f32 :=
  maximumf X (broadcastInDim S8x32x2x4x128 ![0, 1, 2, 3, 4] bcast_S1x1x2x4x1_S8x32x2x4x128_0_1_2_3_4 (broadcastInDim S1x1x2x4x1 ![2, 3, 4] bcast_S2x4x1_S1x1x2x4x1_2_3_4 T))

theorem peakOf_apply (X : FVec Ideal S8x32x2x4x128 .f32) (T : FVec Ideal S2x4x1 .f32) (b : Fin 8) (n : Fin 32) (h : Fin 2) (g : Fin 4) (r : Fin 128) :
    peakOf X T (ix5 b n h g r) = max (X (ix5 b n h g r)) (T (ix3 h g 0)) := by
  pointwise [peakOf]

/-- The rows' maxima. -/
def maxima (L : FVec Ideal S8x32x2x4x128x384 .f32) : FVec Ideal S8x32x2x4x128 .f32 :=
  (Host.reduce FloatOps.maximumf L (constant S_ .f32 0xFF800000#32) reducesTo_S8x32x2x4x128x384_S8x32x2x4x128_d5 h_S_)

theorem maxima_apply (L : FVec Ideal S8x32x2x4x128x384 .f32) (b : Fin 8) (n : Fin 32) (h : Fin 2) (g : Fin 4) (r : Fin 128) :
    maxima L (ix5 b n h g r) = Finset.univ.fold max ⊥ (fun j : Fin 384 => L (ix6 b n h g r j)) :=
  Rows.top reducesTo_S8x32x2x4x128x384_S8x32x2x4x128_d5 L h_S_ b n h g r

/-- The rows' maxima, the sink included. -/
def peak (L : FVec Ideal S8x32x2x4x128x384 .f32) (T : FVec Ideal S2x4x1 .f32) : FVec Ideal S8x32x2x4x128 .f32 := peakOf (maxima L) T

theorem peak_apply (L : FVec Ideal S8x32x2x4x128x384 .f32) (T : FVec Ideal S2x4x1 .f32) (b : Fin 8) (n : Fin 32) (h : Fin 2) (g : Fin 4) (r : Fin 128) :
    peak L T (ix5 b n h g r) = top (fun j : Fin 384 => L (ix6 b n h g r j)) (T (ix3 h g 0)) := by
  unfold peak top
  rw [peakOf_apply, maxima_apply]

/-- The weights before dividing. -/
def weight (L : FVec Ideal S8x32x2x4x128x384 .f32) (M : FVec Ideal S8x32x2x4x128 .f32) : FVec Ideal S8x32x2x4x128x384 .f32 :=
  Host.exp (subf L (broadcastInDim S8x32x2x4x128x384 ![0, 1, 2, 3, 4, 5] bcast_S8x32x2x4x128x1_S8x32x2x4x128x384_0_1_2_3_4_5 (broadcastInDim S8x32x2x4x128x1 ![0, 1, 2, 3, 4] bcast_S8x32x2x4x128_S8x32x2x4x128x1_0_1_2_3_4 M)))

theorem weight_apply (L : FVec Ideal S8x32x2x4x128x384 .f32) (M : FVec Ideal S8x32x2x4x128 .f32) (b : Fin 8) (n : Fin 32) (h : Fin 2) (g : Fin 4) (r : Fin 128) (j : Fin 384) :
    weight L M (ix6 b n h g r j) = Ideal.exp (L (ix6 b n h g r j) - M (ix5 b n h g r)) := by
  pointwise [weight]

/-- The rows' sums. -/
def sums (W : FVec Ideal S8x32x2x4x128x384 .f32) : FVec Ideal S8x32x2x4x128 .f32 :=
  (Host.reduceAdd W (constant S_ .f32 0x00000000#32) reducesTo_S8x32x2x4x128x384_S8x32x2x4x128_d5 h_S_)

theorem sums_apply (W : FVec Ideal S8x32x2x4x128x384 .f32) (b : Fin 8) (n : Fin 32) (h : Fin 2) (g : Fin 4) (r : Fin 128) :
    sums W (ix5 b n h g r) = ∑ j : Fin 384, W (ix6 b n h g r j) :=
  Rows.sum reducesTo_S8x32x2x4x128x384_S8x32x2x4x128_d5 W h_S_ b n h g r

/-- The weights divided by the row's sum, the sink's weight included. -/
def divided (W : FVec Ideal S8x32x2x4x128x384 .f32) (X M : FVec Ideal S8x32x2x4x128 .f32) (T : FVec Ideal S2x4x1 .f32) : FVec Ideal S8x32x2x4x128x384 .f32 :=
  (Host.divf W (broadcastInDim S8x32x2x4x128x384 ![0, 1, 2, 3, 4, 5] bcast_S8x32x2x4x128x1_S8x32x2x4x128x384_0_1_2_3_4_5 (broadcastInDim S8x32x2x4x128x1 ![0, 1, 2, 3, 4] bcast_S8x32x2x4x128_S8x32x2x4x128x1_0_1_2_3_4 (addf X (Host.exp (subf (broadcastInDim S8x32x2x4x128 ![0, 1, 2, 3, 4] bcast_S1x1x2x4x1_S8x32x2x4x128_0_1_2_3_4 (broadcastInDim S1x1x2x4x1 ![2, 3, 4] bcast_S2x4x1_S1x1x2x4x1_2_3_4 T)) M))))))

theorem divided_apply (W : FVec Ideal S8x32x2x4x128x384 .f32) (X M : FVec Ideal S8x32x2x4x128 .f32) (T : FVec Ideal S2x4x1 .f32)
    (b : Fin 8) (n : Fin 32) (h : Fin 2) (g : Fin 4) (r : Fin 128) (j : Fin 384) :
    divided W X M T (ix6 b n h g r j)
      = Ideal.div (W (ix6 b n h g r j)) (X (ix5 b n h g r) + Ideal.exp (T (ix3 h g 0) - M (ix5 b n h g r))) := by
  pointwise [divided]

/-- The weighted sums of the values, back in the argument's order of rows and channels. -/
def outputs (U : FVec Ideal S8x32x384x2x64 .f32) (P : FVec Ideal S8x32x2x4x128x384 .f32) : FVec Ideal S32768x512 .f32 :=
  (shapeCast _ (transpose S8x32x128x4x2x64 [0, 1, 2, 4, 3, 5] (transpose S8x32x128x2x4x64 [0, 1, 5, 2, 4, 3] (Host.dotGeneral dot_S8x32x384x2x64_S8x32x2x4x128x384_S8x32x2x64x4x128_2_5_4_34_013_012 none (U) P) transposes_S8x32x2x64x4x128_S8x32x128x2x4x64_0_1_5_2_4_3) transposes_S8x32x128x2x4x64_S8x32x128x4x2x64_0_1_2_4_3_5) shapeCasts_S8x32x128x4x2x64_S32768x512)

theorem outputs_apply (U : FVec Ideal S8x32x384x2x64 .f32) (P : FVec Ideal S8x32x2x4x128x384 .f32)
    (b : Fin 8) (n : Fin 32) (h : Fin 2) (g : Fin 4) (r : Fin 128) (d : Fin 64) :
    outputs U P (ix2 ⟨4096 * b + 128 * n + r, by omega⟩ ⟨128 * g + 64 * h + d, by omega⟩) = ∑ j : Fin 384, P (ix6 b n h g r j) * U (ix5 b n j h d) := by
  pointwise [outputs]
  exact Finset.sum_congr rfl fun j _ => mul_comm _ _

/-- The group's part of the result. -/
def part : Vec Ideal S32768x512 .f32 :=
  (shapeCast _ (transpose S8x32x128x4x2x64 [0, 1, 2, 4, 3, 5] (transpose S8x32x128x2x4x64 [0, 1, 5, 2, 4, 3] (Host.dotGeneral dot_S8x32x384x2x64_S8x32x2x4x128x384_S8x32x2x64x4x128_2_5_4_34_013_012 none ((band (res_main_v27 V0))) (Host.divf (res_main_v72 V0) (broadcastInDim S8x32x2x4x128x384 ![0, 1, 2, 3, 4, 5] bcast_S8x32x2x4x128x1_S8x32x2x4x128x384_0_1_2_3_4_5 (broadcastInDim S8x32x2x4x128x1 ![0, 1, 2, 3, 4] bcast_S8x32x2x4x128_S8x32x2x4x128x1_0_1_2_3_4 (addf (Host.reduceAdd (res_main_v72 V0) (constant S_ .f32 0x00000000#32) reducesTo_S8x32x2x4x128x384_S8x32x2x4x128_d5 h_S_) (Host.exp (subf (broadcastInDim S8x32x2x4x128 ![0, 1, 2, 3, 4] bcast_S1x1x2x4x1_S8x32x2x4x128_0_1_2_3_4 (broadcastInDim S1x1x2x4x1 ![2, 3, 4] bcast_S2x4x1_S1x1x2x4x1_2_3_4 (res_main_v64 V0))) (res_main_v68 V0)))))))) transposes_S8x32x2x64x4x128_S8x32x128x2x4x64_0_1_5_2_4_3) transposes_S8x32x128x2x4x64_S8x32x128x4x2x64_0_1_2_4_3_5) shapeCasts_S8x32x128x4x2x64_S32768x512)

theorem peak_eq : res_main_v68 V0 = peak (res_main_v62 V0) (res_main_v64 V0) := rfl

theorem weight_eq : res_main_v72 V0 = weight (res_main_v62 V0) (res_main_v68 V0) := rfl

theorem part_eq : part V0 = outputs (band (res_main_v27 V0))
    (divided (res_main_v72 V0) (sums (res_main_v72 V0)) (res_main_v68 V0) (res_main_v64 V0)) := rfl

/-- The logit of key `j` for row `r` of block `n`. -/
def logit (b : Fin 8) (n : Fin 32) (h : Fin 2) (g : Fin 4) (r : Fin 128) (j : Fin 384) : EReal :=
  if lit0 (S128x384.rowMajor (ix2 r j)) = 0#1 ∨ outside n j then ⊥
  else (∑ d : Fin 64, argZ V0 (ix2 (row b (128 * n + j)) ⟨2560 + (64 * h + d), by omega⟩)
      * argZ V0 (ix2 ⟨0 + 4096 * b + 128 * n + r, by omega⟩ ⟨2048 + (128 * g + 64 * h + d), by omega⟩))
    + Bias.bucketed (V0 (Proc.devRef .tc main_arg1)) (ix3 r j ⟨4 * h + g, by omega⟩)

theorem select_bit {α : Type} (x : BitVec 1) (y z : α) : Scalar.select x y z = if x = 0#1 then z else y := by
  rcases (by decide +revert : x = 0#1 ∨ x = 1#1) with h | h <;> subst h <;> rfl

theorem logit_apply (b : Fin 8) (n : Fin 32) (h : Fin 2) (g : Fin 4) (r : Fin 128) (j : Fin 384) :
    (res_main_v62 V0 : FVec Ideal S8x32x2x4x128x384 .f32) (ix6 b n h g r j) = logit V0 b n h g r j := by
  rw [logits_eq, logits_apply, window_apply, select_bit, scores_apply, Bias.bias_apply]
  unfold logit
  by_cases ho : outside n j
  · rw [if_pos ho, if_pos rfl, if_pos (Or.inr ho)]
  · have hk : ∀ d : Fin 64, band (res_main_v19 V0) (ix5 b n j h d) = argZ V0 (ix2 (row b (128 * n + j)) ⟨2560 + (64 * h + d), by omega⟩) := by
      intro d
      unfold outside at ho
      rw [band_apply, key_apply, if_pos (by dsimp only; omega)]
    rw [if_neg ho]
    simp only [ho, or_false, hk, query_apply]

/-- The value channel of key `j`. -/
theorem value_apply (b : Fin 8) (p : Fin 4352) (h : Fin 2) (d : Fin 64) :
    (res_main_v27 V0 : Vec Ideal S8x4352x2x64 .f32) (ix4 b p h d)
      = if 128 ≤ (p : ℕ) ∧ (p : ℕ) < 4224 then argZ V0 (ix2 (row b p) ⟨2688 + (64 * h + d), by omega⟩) else 0 := by
  pointwise [res_main_v27, res_main_v7, res_main_v8, res_main_v9]
  by_cases hp : 128 ≤ (p : ℕ) ∧ (p : ℕ) < 4224
  · rw [dif_pos (by omega), if_pos hp]
    exact congrArg (argZ V0) ((ix2_inj ..).2 ⟨Fin.ext (by dsimp only [row]; omega), Fin.ext (by dsimp only; omega)⟩)
  · rw [dif_neg (by omega), if_neg hp]
    simp [FloatOps.sitofp]

/-- One entry of the group's part: the softmax with the sink over the block's keys, every weight divided. -/
theorem part_apply (b : Fin 8) (n : Fin 32) (h : Fin 2) (g : Fin 4) (r : Fin 128) (d : Fin 64) :
    part V0 (ix2 ⟨4096 * b + 128 * n + r, by omega⟩ ⟨128 * g + 64 * h + d, by omega⟩)
      = each (logit V0 b n h g r) (argS V0 (ix2 (0 : Fin 1) ⟨4 * h + g, by omega⟩))
          (fun j => if outside n j then 0 else argZ V0 (ix2 (row b (128 * n + j)) ⟨2688 + (64 * h + d), by omega⟩)) := by
  rw [part_eq, outputs_apply]
  unfold each den
  refine Finset.sum_congr rfl fun j _ => ?_
  rw [divided_apply]
  simp only [weight_eq, peak_eq, sums_apply, weight_apply, peak_apply, logit_apply, sink_apply V0 b n, band_apply, value_apply]
  congr 1
  by_cases ho : outside n j
  · rw [if_pos ho, if_neg (by unfold outside at ho; omega)]
  · rw [if_neg ho, if_pos (by unfold outside at ho; omega)]

end Cert.ReferenceIdeal.Prompt
-- ==== Proof.Sample.lean ====
/- The reference's attention of one group of sequences (1 of 16384 rows), read at an index. -/
module

public import proofs.«01_k».proof.Proof.Gen.ReferenceIdeal.Run
public import proofs.«01_k».proof.Proof.Rows

@[expose] public section

set_option maxRecDepth 16384

noncomputable section

open Idealize.ShloMosaic Idealize.ShloMosaic.TcCoe Idealize.SL.Sem

namespace Cert.ReferenceIdeal.Sample

open Cert.ReferenceIdeal Cert.ReferenceIdeal.Gen Cert.ReferenceIdeal.Value Cert.Softmax

/-- The three shifted copies of a padded array, side by side: every block's band of keys. -/
def band (t : FVec Ideal S1x16640x2x64 .f32) : FVec Ideal S1x128x384x2x64 .f32 :=
  (concatenate S1x128x384x2x64 2 [⟨S1x128x128x2x64, ((shapeCast _ (extractStridedSlice S1x16384x2x64 ![0, 0, 0, 0] t slices_S1x16640x2x64_S1x16384x2x64_0_0_0_0) shapeCasts_S1x16384x2x64_S1x128x128x2x64) : (⟨S1x128x128x2x64, .f32⟩ : BufTy).Contents (Elt Ideal))⟩, ⟨S1x128x128x2x64, ((shapeCast _ (extractStridedSlice S1x16384x2x64 ![0, 128, 0, 0] t slices_S1x16640x2x64_S1x16384x2x64_0_128_0_0) shapeCasts_S1x16384x2x64_S1x128x128x2x64) : (⟨S1x128x128x2x64, .f32⟩ : BufTy).Contents (Elt Ideal))⟩, ⟨S1x128x128x2x64, ((shapeCast _ (extractStridedSlice S1x16384x2x64 ![0, 256, 0, 0] t slices_S1x16640x2x64_S1x16384x2x64_0_256_0_0) shapeCasts_S1x16384x2x64_S1x128x128x2x64) : (⟨S1x128x128x2x64, .f32⟩ : BufTy).Contents (Elt Ideal))⟩] concatenates_S1x128x128x2x64_S1x128x128x2x64_S1x128x128x2x64_S1x128x384x2x64_d2 : (⟨S1x128x384x2x64, .f32⟩ : BufTy).Contents (Elt Ideal))

/-- Key `j` of block `n`'s band is row `128 n + j` of the padded sequence. -/
theorem band_apply (t : Vec Ideal S1x16640x2x64 .f32) (b : Fin 1) (n : Fin 128) (j : Fin 384) (h : Fin 2) (d : Fin 64) :
    band t (ix5 b n j h d) = t (ix4 b ⟨128 * n + j, by omega⟩ h d) := by
  obtain rfl : b = 0 := Subsingleton.elim _ _
  pointwise [band]
  split_ifs <;> exact congrArg t ((ix4_inj ..).2 ⟨rfl, Fin.ext (by dsimp only; omega), rfl, rfl⟩)

/-- The argument's row behind row `p` of batch `b`'s padded sequence. -/
def row (b : Fin 1) (p : ℕ) : Fin 49152 := ⟨min (32768 + 16384 * b + (p - 128)) 49151, by omega⟩

variable (V0 : Valuation τ sig (Elt Ideal))

/-- The argument, the bucketed bias table and the sinks. -/
abbrev argZ : Vec Ideal S49152x2816 .bf16 := V0 (Proc.devRef .tc main_arg0)
abbrev argS : Vec Ideal S1x8 .f32 := V0 (Proc.devRef .tc main_arg2)

theorem key_apply (b : Fin 1) (p : Fin 16640) (h : Fin 2) (d : Fin 64) :
    (res_main_v95 V0 : Vec Ideal S1x16640x2x64 .f32) (ix4 b p h d)
      = if 128 ≤ (p : ℕ) ∧ (p : ℕ) < 16512 then argZ V0 (ix2 (row b p) ⟨2560 + (64 * h + d), by omega⟩) else 0 := by
  obtain rfl : b = 0 := Subsingleton.elim _ _
  pointwise [res_main_v95, res_main_v7, res_main_v8, res_main_v9]
  by_cases hp : 128 ≤ (p : ℕ) ∧ (p : ℕ) < 16512
  · rw [dif_pos (by omega), if_pos hp]
    exact congrArg (argZ V0) ((ix2_inj ..).2 ⟨Fin.ext (by dsimp only [row]; omega), Fin.ext (by dsimp only; omega)⟩)
  · rw [dif_neg (by omega), if_neg hp]
    simp [FloatOps.sitofp]

theorem sink_apply (b : Fin 1) (n : Fin 128) (h : Fin 2) (g : Fin 4) :
    (res_main_v140 V0 : Vec Ideal S2x4x1 .f32) (ix3 h g 0) = argS V0 (ix2 (0 : Fin 1) ⟨4 * h + g, by omega⟩) := by
  obtain rfl : b = 0 := Subsingleton.elim _ _
  pointwise [res_main_v140]
  exact congrArg (argS V0) ((ix2_inj ..).2 ⟨rfl, Fin.ext (by dsimp only; omega)⟩)

/-- The products of one query with its block's keys. -/
def scores (K : FVec Ideal S1x128x384x2x64 .f32) (Q : FVec Ideal S1x128x128x2x4x64 .f32) : FVec Ideal S1x128x2x4x128x384 .f32 :=
  (transpose S1x128x2x4x128x384 [0, 1, 2, 5, 4, 3] (Host.dotGeneral dot_S1x128x384x2x64_S1x128x128x2x4x64_S1x128x2x384x128x4_4_5_2_24_013_013 none (K) Q) transposes_S1x128x2x384x128x4_S1x128x2x4x128x384_0_1_2_5_4_3)

theorem scores_apply (K : FVec Ideal S1x128x384x2x64 .f32) (Q : FVec Ideal S1x128x128x2x4x64 .f32) (b : Fin 1) (n : Fin 128) (h : Fin 2) (g : Fin 4) (r : Fin 128) (j : Fin 384) :
    scores K Q (ix6 b n h g r j) = ∑ d : Fin 64, K (ix5 b n j h d) * Q (ix6 b n r h g d) := by
  obtain rfl : b = 0 := Subsingleton.elim _ _
  pointwise [scores]

/-- The queries, by sequence, block, row, key head and group. -/
def query : FVec Ideal S1x128x128x2x4x64 .f32 :=
  (shapeCast _ (transpose S1x16384x2x4x64 [0, 1, 3, 2, 4] (shapeCast _ (extractStridedSlice S16384x512 ![0, 2048] (res_main_v9 V0) slices_S16384x2816_S16384x512_0_2048) shapeCasts_S16384x512_S1x16384x4x2x64) transposes_S1x16384x4x2x64_S1x16384x2x4x64_0_1_3_2_4) shapeCasts_S1x16384x2x4x64_S1x128x128x2x4x64)

theorem query_apply (b : Fin 1) (n : Fin 128) (r : Fin 128) (h : Fin 2) (g : Fin 4) (d : Fin 64) :
    query V0 (ix6 b n r h g d) = argZ V0 (ix2 ⟨32768 + 16384 * b + 128 * n + r, by omega⟩ ⟨2048 + (128 * g + 64 * h + d), by omega⟩) := by
  obtain rfl : b = 0 := Subsingleton.elim _ _
  pointwise [query, res_main_v7, res_main_v8, res_main_v9]
  exact congrArg (argZ V0) ((ix2_inj ..).2 ⟨Fin.ext (by dsimp only; omega), Fin.ext (by dsimp only; omega)⟩)

/-- Where a key is seen: inside the window and inside the sequence. -/
def window : IVec S1x128x2x4x128x384 1 :=
  (broadcastInDim S1x128x2x4x128x384 ![0, 1, 2, 3, 4, 5] bcast_S1x128x1x1x128x384_S1x128x2x4x128x384_0_1_2_3_4_5 (broadcastInDim S1x128x1x1x128x384 ![1, 4, 5] bcast_S128x128x384_S1x128x1x1x128x384_1_4_5 (andi (broadcastInDim S128x128x384 ![0, 1, 2] bcast_S1x128x384_S128x128x384_0_1_2 (broadcastInDim S1x128x384 ![1, 2] bcast_S128x384_S1x128x384_1_2 (res_main_c V0))) (broadcastInDim S128x128x384 ![0, 1, 2] bcast_S128x1x384_S128x128x384_0_1_2 (broadcastInDim S128x1x384 ![0, 2] bcast_S128x384_S128x1x384_0_2 (andi (cmpi .sge (res_main_v123 V0) (broadcastInDim S128x384 ![] bcast_S_S128x384 (constantI S_ 32 0#32))) (cmpi .slt (res_main_v123 V0) (broadcastInDim S128x384 ![] bcast_S_S128x384 (constantI S_ 32 16384#32)))))))))

/-- Key `j` of block `n` lies before the sequence or after it. -/
def outside (n : Fin 128) (j : Fin 384) : Prop := 128 * (n : ℕ) + j < 128 ∨ 16512 ≤ 128 * (n : ℕ) + j

instance (n : Fin 128) (j : Fin 384) : Decidable (outside n j) := by unfold outside; infer_instance

/-- The mask's arithmetic on positions says whether the key lies inside the sequence. -/
theorem inside : ∀ (n : Fin 128) (j : Fin 384),
    IntOp.andi
        (IntOp.cmpi CmpIPredicate.sge
          (IntOp.addi (IntOp.subi (IntOp.muli (BitVec.ofNat 32 ↑n) 128#32) 128#32) (BitVec.ofNat 32 ↑j)) 0#32)
        (IntOp.cmpi CmpIPredicate.slt
          (IntOp.addi (IntOp.subi (IntOp.muli (BitVec.ofNat 32 ↑n) 128#32) 128#32) (BitVec.ofNat 32 ↑j)) 16384#32)
      = if outside n j then 0#1 else 1#1 := by
  decide +kernel

theorem window_apply (b : Fin 1) (n : Fin 128) (h : Fin 2) (g : Fin 4) (r : Fin 128) (j : Fin 384) :
    window V0 (ix6 b n h g r j) = if outside n j then 0#1 else lit0 (S128x384.rowMajor (ix2 r j)) := by
  obtain rfl : b = 0 := Subsingleton.elim _ _
  pointwise [window, res_main_v123, res_main_c]
  rw [inside]
  by_cases ho : outside n j
  · rw [if_pos ho, if_pos ho]
    exact BitVec.and_zero
  · rw [if_neg ho, if_neg ho]
    exact (BitVec.and_allOnes : lit0 (S128x384.rowMajor (ix2 r j)) &&& BitVec.allOnes 1 = _)

/-- The logits: the products and the bias, minus infinity where the key is not seen. -/
def logits (M : IVec S1x128x2x4x128x384 1) (L : FVec Ideal S1x128x2x4x128x384 .f32) (T : FVec Ideal S2x4x128x384 .f32) : FVec Ideal S1x128x2x4x128x384 .f32 :=
  select M (addf L (broadcastInDim S1x128x2x4x128x384 ![0, 1, 2, 3, 4, 5] bcast_S1x1x2x4x128x384_S1x128x2x4x128x384_0_1_2_3_4_5 (broadcastInDim S1x1x2x4x128x384 ![2, 3, 4, 5] bcast_S2x4x128x384_S1x1x2x4x128x384_2_3_4_5 T))) (broadcastInDim S1x128x2x4x128x384 ![] bcast_S_S1x128x2x4x128x384 (constant S_ .f32 0xFF800000#32 : FVec Ideal S_ .f32))

theorem logits_apply (M : IVec S1x128x2x4x128x384 1) (L : FVec Ideal S1x128x2x4x128x384 .f32) (T : FVec Ideal S2x4x128x384 .f32)
    (b : Fin 1) (n : Fin 128) (h : Fin 2) (g : Fin 4) (r : Fin 128) (j : Fin 384) :
    logits M L T (ix6 b n h g r j) = Scalar.select (M (ix6 b n h g r j)) (L (ix6 b n h g r j) + T (ix4 h g r j)) ⊥ := by
  obtain rfl : b = 0 := Subsingleton.elim _ _
  pointwise [logits]
  rw [Rows.neg_inf]

theorem logits_eq : res_main_v138 V0 = logits (window V0) (scores (band (res_main_v95 V0)) (query V0)) (res_main_v6 V0) := rfl

/-- The larger of the rows' maxima and the sinks. -/
def peakOf (X : FVec Ideal S1x128x2x4x128 .f32) (T : FVec Ideal S2x4x1 .f32) : FVec Ideal S1x128x2x4x128 .f32 :=
  maximumf X (broadcastInDim S1x128x2x4x128 ![0, 1, 2, 3, 4] bcast_S1x1x2x4x1_S1x128x2x4x128_0_1_2_3_4 (broadcastInDim S1x1x2x4x1 ![2, 3, 4] bcast_S2x4x1_S1x1x2x4x1_2_3_4 T))

theorem peakOf_apply (X : FVec Ideal S1x128x2x4x128 .f32) (T : FVec Ideal S2x4x1 .f32) (b : Fin 1) (n : Fin 128) (h : Fin 2) (g : Fin 4) (r : Fin 128) :
    peakOf X T (ix5 b n h g r) = max (X (ix5 b n h g r)) (T (ix3 h g 0)) := by
  obtain rfl : b = 0 := Subsingleton.elim _ _
  pointwise [peakOf]

/-- The rows' maxima. -/
def maxima (L : FVec Ideal S1x128x2x4x128x384 .f32) : FVec Ideal S1x128x2x4x128 .f32 :=
  (Host.reduce FloatOps.maximumf L (constant S_ .f32 0xFF800000#32) reducesTo_S1x128x2x4x128x384_S1x128x2x4x128_d5 h_S_)

theorem maxima_apply (L : FVec Ideal S1x128x2x4x128x384 .f32) (b : Fin 1) (n : Fin 128) (h : Fin 2) (g : Fin 4) (r : Fin 128) :
    maxima L (ix5 b n h g r) = Finset.univ.fold max ⊥ (fun j : Fin 384 => L (ix6 b n h g r j)) :=
  Rows.top reducesTo_S1x128x2x4x128x384_S1x128x2x4x128_d5 L h_S_ b n h g r

/-- The rows' maxima, the sink included. -/
def peak (L : FVec Ideal S1x128x2x4x128x384 .f32) (T : FVec Ideal S2x4x1 .f32) : FVec Ideal S1x128x2x4x128 .f32 := peakOf (maxima L) T

theorem peak_apply (L : FVec Ideal S1x128x2x4x128x384 .f32) (T : FVec Ideal S2x4x1 .f32) (b : Fin 1) (n : Fin 128) (h : Fin 2) (g : Fin 4) (r : Fin 128) :
    peak L T (ix5 b n h g r) = top (fun j : Fin 384 => L (ix6 b n h g r j)) (T (ix3 h g 0)) := by
  unfold peak top
  rw [peakOf_apply, maxima_apply]

/-- The weights before dividing. -/
def weight (L : FVec Ideal S1x128x2x4x128x384 .f32) (M : FVec Ideal S1x128x2x4x128 .f32) : FVec Ideal S1x128x2x4x128x384 .f32 :=
  Host.exp (subf L (broadcastInDim S1x128x2x4x128x384 ![0, 1, 2, 3, 4, 5] bcast_S1x128x2x4x128x1_S1x128x2x4x128x384_0_1_2_3_4_5 (broadcastInDim S1x128x2x4x128x1 ![0, 1, 2, 3, 4] bcast_S1x128x2x4x128_S1x128x2x4x128x1_0_1_2_3_4 M)))

theorem weight_apply (L : FVec Ideal S1x128x2x4x128x384 .f32) (M : FVec Ideal S1x128x2x4x128 .f32) (b : Fin 1) (n : Fin 128) (h : Fin 2) (g : Fin 4) (r : Fin 128) (j : Fin 384) :
    weight L M (ix6 b n h g r j) = Ideal.exp (L (ix6 b n h g r j) - M (ix5 b n h g r)) := by
  obtain rfl : b = 0 := Subsingleton.elim _ _
  pointwise [weight]

/-- The rows' sums. -/
def sums (W : FVec Ideal S1x128x2x4x128x384 .f32) : FVec Ideal S1x128x2x4x128 .f32 :=
  (Host.reduceAdd W (constant S_ .f32 0x00000000#32) reducesTo_S1x128x2x4x128x384_S1x128x2x4x128_d5 h_S_)

theorem sums_apply (W : FVec Ideal S1x128x2x4x128x384 .f32) (b : Fin 1) (n : Fin 128) (h : Fin 2) (g : Fin 4) (r : Fin 128) :
    sums W (ix5 b n h g r) = ∑ j : Fin 384, W (ix6 b n h g r j) :=
  Rows.sum reducesTo_S1x128x2x4x128x384_S1x128x2x4x128_d5 W h_S_ b n h g r

/-- The weights divided by the row's sum, the sink's weight included. -/
def divided (W : FVec Ideal S1x128x2x4x128x384 .f32) (X M : FVec Ideal S1x128x2x4x128 .f32) (T : FVec Ideal S2x4x1 .f32) : FVec Ideal S1x128x2x4x128x384 .f32 :=
  (Host.divf W (broadcastInDim S1x128x2x4x128x384 ![0, 1, 2, 3, 4, 5] bcast_S1x128x2x4x128x1_S1x128x2x4x128x384_0_1_2_3_4_5 (broadcastInDim S1x128x2x4x128x1 ![0, 1, 2, 3, 4] bcast_S1x128x2x4x128_S1x128x2x4x128x1_0_1_2_3_4 (addf X (Host.exp (subf (broadcastInDim S1x128x2x4x128 ![0, 1, 2, 3, 4] bcast_S1x1x2x4x1_S1x128x2x4x128_0_1_2_3_4 (broadcastInDim S1x1x2x4x1 ![2, 3, 4] bcast_S2x4x1_S1x1x2x4x1_2_3_4 T)) M))))))

theorem divided_apply (W : FVec Ideal S1x128x2x4x128x384 .f32) (X M : FVec Ideal S1x128x2x4x128 .f32) (T : FVec Ideal S2x4x1 .f32)
    (b : Fin 1) (n : Fin 128) (h : Fin 2) (g : Fin 4) (r : Fin 128) (j : Fin 384) :
    divided W X M T (ix6 b n h g r j)
      = Ideal.div (W (ix6 b n h g r j)) (X (ix5 b n h g r) + Ideal.exp (T (ix3 h g 0) - M (ix5 b n h g r))) := by
  obtain rfl : b = 0 := Subsingleton.elim _ _
  pointwise [divided]

/-- The weighted sums of the values, back in the argument's order of rows and channels. -/
def outputs (U : FVec Ideal S1x128x384x2x64 .f32) (P : FVec Ideal S1x128x2x4x128x384 .f32) : FVec Ideal S16384x512 .f32 :=
  (shapeCast _ (transpose S1x128x128x4x2x64 [0, 1, 2, 4, 3, 5] (transpose S1x128x128x2x4x64 [0, 1, 5, 2, 4, 3] (Host.dotGeneral dot_S1x128x384x2x64_S1x128x2x4x128x384_S1x128x2x64x4x128_2_5_4_34_013_012 none (U) P) transposes_S1x128x2x64x4x128_S1x128x128x2x4x64_0_1_5_2_4_3) transposes_S1x128x128x2x4x64_S1x128x128x4x2x64_0_1_2_4_3_5) shapeCasts_S1x128x128x4x2x64_S16384x512)

theorem outputs_apply (U : FVec Ideal S1x128x384x2x64 .f32) (P : FVec Ideal S1x128x2x4x128x384 .f32)
    (b : Fin 1) (n : Fin 128) (h : Fin 2) (g : Fin 4) (r : Fin 128) (d : Fin 64) :
    outputs U P (ix2 ⟨16384 * b + 128 * n + r, by omega⟩ ⟨128 * g + 64 * h + d, by omega⟩) = ∑ j : Fin 384, P (ix6 b n h g r j) * U (ix5 b n j h d) := by
  obtain rfl : b = 0 := Subsingleton.elim _ _
  pointwise [outputs]
  exact Finset.sum_congr rfl fun j _ => mul_comm _ _

/-- The group's part of the result. -/
def part : Vec Ideal S16384x512 .f32 :=
  (shapeCast _ (transpose S1x128x128x4x2x64 [0, 1, 2, 4, 3, 5] (transpose S1x128x128x2x4x64 [0, 1, 5, 2, 4, 3] (Host.dotGeneral dot_S1x128x384x2x64_S1x128x2x4x128x384_S1x128x2x64x4x128_2_5_4_34_013_012 none ((band (res_main_v103 V0))) (Host.divf (res_main_v148 V0) (broadcastInDim S1x128x2x4x128x384 ![0, 1, 2, 3, 4, 5] bcast_S1x128x2x4x128x1_S1x128x2x4x128x384_0_1_2_3_4_5 (broadcastInDim S1x128x2x4x128x1 ![0, 1, 2, 3, 4] bcast_S1x128x2x4x128_S1x128x2x4x128x1_0_1_2_3_4 (addf (Host.reduceAdd (res_main_v148 V0) (constant S_ .f32 0x00000000#32) reducesTo_S1x128x2x4x128x384_S1x128x2x4x128_d5 h_S_) (Host.exp (subf (broadcastInDim S1x128x2x4x128 ![0, 1, 2, 3, 4] bcast_S1x1x2x4x1_S1x128x2x4x128_0_1_2_3_4 (broadcastInDim S1x1x2x4x1 ![2, 3, 4] bcast_S2x4x1_S1x1x2x4x1_2_3_4 (res_main_v140 V0))) (res_main_v144 V0)))))))) transposes_S1x128x2x64x4x128_S1x128x128x2x4x64_0_1_5_2_4_3) transposes_S1x128x128x2x4x64_S1x128x128x4x2x64_0_1_2_4_3_5) shapeCasts_S1x128x128x4x2x64_S16384x512)

theorem peak_eq : res_main_v144 V0 = peak (res_main_v138 V0) (res_main_v140 V0) := rfl

theorem weight_eq : res_main_v148 V0 = weight (res_main_v138 V0) (res_main_v144 V0) := rfl

theorem part_eq : part V0 = outputs (band (res_main_v103 V0))
    (divided (res_main_v148 V0) (sums (res_main_v148 V0)) (res_main_v144 V0) (res_main_v140 V0)) := rfl

/-- The logit of key `j` for row `r` of block `n`. -/
def logit (b : Fin 1) (n : Fin 128) (h : Fin 2) (g : Fin 4) (r : Fin 128) (j : Fin 384) : EReal :=
  if lit0 (S128x384.rowMajor (ix2 r j)) = 0#1 ∨ outside n j then ⊥
  else (∑ d : Fin 64, argZ V0 (ix2 (row b (128 * n + j)) ⟨2560 + (64 * h + d), by omega⟩)
      * argZ V0 (ix2 ⟨32768 + 16384 * b + 128 * n + r, by omega⟩ ⟨2048 + (128 * g + 64 * h + d), by omega⟩))
    + Bias.bucketed (V0 (Proc.devRef .tc main_arg1)) (ix3 r j ⟨4 * h + g, by omega⟩)

theorem select_bit {α : Type} (x : BitVec 1) (y z : α) : Scalar.select x y z = if x = 0#1 then z else y := by
  rcases (by decide +revert : x = 0#1 ∨ x = 1#1) with h | h <;> subst h <;> rfl

theorem logit_apply (b : Fin 1) (n : Fin 128) (h : Fin 2) (g : Fin 4) (r : Fin 128) (j : Fin 384) :
    (res_main_v138 V0 : FVec Ideal S1x128x2x4x128x384 .f32) (ix6 b n h g r j) = logit V0 b n h g r j := by
  rw [logits_eq, logits_apply, window_apply, select_bit, scores_apply, Bias.bias_apply]
  unfold logit
  by_cases ho : outside n j
  · rw [if_pos ho, if_pos rfl, if_pos (Or.inr ho)]
  · have hk : ∀ d : Fin 64, band (res_main_v95 V0) (ix5 b n j h d) = argZ V0 (ix2 (row b (128 * n + j)) ⟨2560 + (64 * h + d), by omega⟩) := by
      intro d
      unfold outside at ho
      rw [band_apply, key_apply, if_pos (by dsimp only; omega)]
    rw [if_neg ho]
    simp only [ho, or_false, hk, query_apply]

/-- The value channel of key `j`. -/
theorem value_apply (b : Fin 1) (p : Fin 16640) (h : Fin 2) (d : Fin 64) :
    (res_main_v103 V0 : Vec Ideal S1x16640x2x64 .f32) (ix4 b p h d)
      = if 128 ≤ (p : ℕ) ∧ (p : ℕ) < 16512 then argZ V0 (ix2 (row b p) ⟨2688 + (64 * h + d), by omega⟩) else 0 := by
  obtain rfl : b = 0 := Subsingleton.elim _ _
  pointwise [res_main_v103, res_main_v7, res_main_v8, res_main_v9]
  by_cases hp : 128 ≤ (p : ℕ) ∧ (p : ℕ) < 16512
  · rw [dif_pos (by omega), if_pos hp]
    exact congrArg (argZ V0) ((ix2_inj ..).2 ⟨Fin.ext (by dsimp only [row]; omega), Fin.ext (by dsimp only; omega)⟩)
  · rw [dif_neg (by omega), if_neg hp]
    simp [FloatOps.sitofp]

/-- One entry of the group's part: the softmax with the sink over the block's keys, every weight divided. -/
theorem part_apply (b : Fin 1) (n : Fin 128) (h : Fin 2) (g : Fin 4) (r : Fin 128) (d : Fin 64) :
    part V0 (ix2 ⟨16384 * b + 128 * n + r, by omega⟩ ⟨128 * g + 64 * h + d, by omega⟩)
      = each (logit V0 b n h g r) (argS V0 (ix2 (0 : Fin 1) ⟨4 * h + g, by omega⟩))
          (fun j => if outside n j then 0 else argZ V0 (ix2 (row b (128 * n + j)) ⟨2688 + (64 * h + d), by omega⟩)) := by
  rw [part_eq, outputs_apply]
  unfold each den
  refine Finset.sum_congr rfl fun j _ => ?_
  rw [divided_apply]
  simp only [weight_eq, peak_eq, sums_apply, weight_apply, peak_apply, logit_apply, sink_apply V0 b n, band_apply, value_apply]
  congr 1
  by_cases ho : outside n j
  · rw [if_pos ho, if_neg (by unfold outside at ho; omega)]
  · rw [if_neg ho, if_pos (by unfold outside at ho; omega)]

end Cert.ReferenceIdeal.Sample
-- ==== Proof.Equation.lean ====
/- One row of the kernel's attention is one row of the reference's. -/
module

public import proofs.«01_k».proof.Proof.Tables
public import proofs.«01_k».proof.Proof.Prompt
public import proofs.«01_k».proof.Proof.Sample

@[expose] public section

set_option maxRecDepth 16384

noncomputable section

open Idealize.ShloMosaic Idealize.ShloMosaic.TcCoe Idealize.SL.Sem Cert.Softmax

namespace Cert.Equation

/-- A finite extended real. -/
def IsReal (x : EReal) : Prop := x ≠ ⊤ ∧ x ≠ ⊥

theorem IsReal.mul {x y : EReal} (hx : IsReal x) (hy : IsReal y) : IsReal (x * y) := by
  lift x to ℝ using hx
  lift y to ℝ using hy
  rw [← EReal.coe_mul]
  exact ⟨EReal.coe_ne_top _, EReal.coe_ne_bot _⟩

theorem IsReal.add {x y : EReal} (hx : IsReal x) (hy : IsReal y) : IsReal (x + y) := by
  lift x to ℝ using hx
  lift y to ℝ using hy
  rw [← EReal.coe_add]
  exact ⟨EReal.coe_ne_top _, EReal.coe_ne_bot _⟩

theorem IsReal.sum {ι : Type} (s : Finset ι) (f : ι → EReal) (hf : ∀ i, IsReal (f i)) : IsReal (∑ i ∈ s, f i) := by
  classical
  induction s using Finset.induction_on with
  | empty => exact ⟨by simp, by simp⟩
  | insert a s ha ih => rw [Finset.sum_insert ha]; exact (hf a).add ih

/-- The product of a query's 128 lanes with a key whose other head's lanes are zeroed is the product over the head's 64 lanes. -/
theorem lane_sum (h : Fin 2) (x y : Fin 128 → EReal) :
    ∑ d : Fin 128, x d * KernelIdeal.Block.lane h d (y d)
      = ∑ d : Fin 64, y ⟨64 * h + d, by omega⟩ * x ⟨64 * h + d, by omega⟩ := by
  have e : ∑ d : Fin 128, x d * KernelIdeal.Block.lane h d (y d)
      = ∑ d ∈ (Finset.univ : Finset (Fin 128)).filter (fun d : Fin 128 => (d : ℕ) / 64 = (h : ℕ)), y d * x d := by
    rw [Finset.sum_filter]
    refine Finset.sum_congr rfl fun d _ => ?_
    unfold KernelIdeal.Block.lane
    have hh : h = 0 ∨ h = 1 := by omega
    rcases hh with rfl | rfl
    · by_cases hd : (d : ℕ) < 64
      · rw [if_pos (by simp [hd]), if_pos (by simp; omega), mul_comm]
      · rw [if_neg (by simp; omega), if_neg (by simp; omega), mul_zero]
    · by_cases hd : (d : ℕ) < 64
      · rw [if_neg (by simp [hd]), if_neg (by simp; omega), mul_zero]
      · rw [if_pos (by simp; omega), if_pos (by simp; omega), mul_comm]
  rw [e]
  symm
  refine Finset.sum_bij (fun (d : Fin 64) _ => (⟨64 * h + d, by omega⟩ : Fin 128)) ?_ ?_ ?_ ?_
  · intro d _
    simp only [Finset.mem_filter, Finset.mem_univ, true_and]
    omega
  · intro a _ b _ hab
    have h0 : 64 * (h : ℕ) + a = 64 * (h : ℕ) + b := congrArg (Fin.val (n := 128)) hab
    exact Fin.ext (by omega)
  · intro d hd
    simp only [Finset.mem_filter, Finset.mem_univ, true_and] at hd
    exact ⟨⟨d - 64 * h, by omega⟩, Finset.mem_univ _, Fin.ext (by dsimp only; omega)⟩
  · intro d _
    rfl

/-- A row with its masked keys, in the kernel's form and in the reference's: the same output. `P` says a key is hidden in the kernel's
    table, `Q` in the reference's mask, and `O` that the key lies outside the sequence, where the reference's padding stands in. -/
theorem row_eq (h : Fin 2) (P Q O : Fin 384 → Prop) [DecidablePred P] [DecidablePred Q] [DecidablePred O] (hPQ : ∀ j, P j ↔ Q j)
    (hOQ : ∀ j, O j → Q j) (x : Fin 128 → EReal) (y : Fin 384 → Fin 128 → EReal) (β : Fin 384 → EReal) (s : EReal) (v : Fin 384 → EReal)
    (x' : Fin 64 → EReal) (y' : Fin 384 → Fin 64 → EReal) (β' : Fin 384 → EReal) (s' : EReal) (v' : Fin 384 → EReal)
    (hx : ∀ d : Fin 64, x' d = x ⟨64 * h + d, by omega⟩) (hy : ∀ j, ¬ O j → ∀ d : Fin 64, y' j d = y j ⟨64 * h + d, by omega⟩)
    (hβ : ∀ j, β' j = β j) (hs' : s' = s) (hv : ∀ j, ¬ O j → v' j = v j)
    (fx : ∀ d, IsReal (x d)) (fy : ∀ j d, IsReal (y j d)) (fβ : ∀ j, IsReal (β j)) (fs : IsReal s) :
    once (fun j => (∑ d : Fin 128, x d * KernelIdeal.Block.lane h d (y j d)) + (if P j then ⊥ else β j)) s v
      = each (fun j => if Q j then ⊥ else (∑ d : Fin 64, y' j d * x' d) + β' j) s' (fun j => if O j then 0 else v' j) := by
  have e : (fun j => (∑ d : Fin 128, x d * KernelIdeal.Block.lane h d (y j d)) + (if P j then ⊥ else β j))
      = (fun j => if Q j then ⊥ else (∑ d : Fin 64, y' j d * x' d) + β' j) := by
    funext j
    by_cases hq : Q j
    · rw [if_pos hq, if_pos ((hPQ j).2 hq), EReal.add_bot]
    · have ho : ¬ O j := fun ho => hq (hOQ j ho)
      rw [if_neg hq, if_neg (fun hp => hq ((hPQ j).1 hp)), lane_sum, hβ]
      congr 1
      exact Finset.sum_congr rfl fun d _ => by rw [hy j ho, hx]
  rw [e, hs']
  refine once_eq_each _ _ ?_ fs.1 fs.2 _ _ ?_
  · intro j
    by_cases hq : Q j
    · rw [if_pos hq]; exact bot_ne_top
    · have ho : ¬ O j := fun ho => hq (hOQ j ho)
      rw [if_neg hq]
      refine ((IsReal.sum _ _ fun d => ?_).add (by rw [hβ]; exact fβ j)).1
      rw [hy j ho, hx]
      exact (fy _ _).mul (fx _)
  · intro j hj
    have hq : ¬ Q j := fun hq => hj (if_pos hq)
    have ho : ¬ O j := fun ho => hq (hOQ j ho)
    rw [if_neg ho, hv j ho]

instance (a : Fin 3) (r : Fin 128) (j : Fin 384) : Decidable (KernelIdeal.Block.hidden a r j) := by
  unfold KernelIdeal.Block.hidden; infer_instance

/-- The two programs' bias tables agree. -/
theorem bucketed_eq (rb : FVec Ideal KernelIdeal.S32x8 .f32) : KernelIdeal.Block.bucketed rb = ReferenceIdeal.Bias.bucketed rb := by
  unfold KernelIdeal.Block.bucketed ReferenceIdeal.Bias.bucketed
  rw [Literals.buckets]
  rfl

/-- Every entry of the bias table is an entry of the bias array. -/
theorem bucketed_mem (rb : Vec Ideal ReferenceIdeal.S32x8 .f32) (i : ReferenceIdeal.S128x384x8.Idx) : ∃ k, ReferenceIdeal.Bias.bucketed rb i = rb k := by
  exact ⟨_, rfl⟩

/-- In the first eight sequences the kernel's choice of table hides the keys outside the sequence. -/
theorem prompt_outside (b : Fin 8) (n : Fin 32) (j : Fin 384) :
    ((KernelIdeal.Block.variant (32 * b + n) = 1 ∧ (j : ℕ) < 128) ∨ (KernelIdeal.Block.variant (32 * b + n) = 2 ∧ 256 ≤ (j : ℕ)))
      ↔ ReferenceIdeal.Prompt.outside n j := by
  unfold KernelIdeal.Block.variant ReferenceIdeal.Prompt.outside
  rw [if_pos (by omega)]
  by_cases h0 : (32 * (b : ℕ) + n) % 32 = 0
  · rw [if_pos h0]; simp; omega
  · rw [if_neg h0]
    by_cases h1 : (32 * (b : ℕ) + n) % 32 = 31
    · rw [if_pos h1]; simp; omega
    · rw [if_neg h1]; simp; omega

/-- The same in the last sequence. -/
theorem sample_outside (b : Fin 1) (n : Fin 128) (j : Fin 384) :
    ((KernelIdeal.Block.variant (256 + n) = 1 ∧ (j : ℕ) < 128) ∨ (KernelIdeal.Block.variant (256 + n) = 2 ∧ 256 ≤ (j : ℕ)))
      ↔ ReferenceIdeal.Sample.outside n j := by
  unfold KernelIdeal.Block.variant ReferenceIdeal.Sample.outside
  rw [if_neg (by omega)]
  by_cases h0 : (256 + (n : ℕ)) % 128 = 0
  · rw [if_pos h0]; simp; omega
  · rw [if_neg h0]
    by_cases h1 : (256 + (n : ℕ)) % 128 = 127
    · rw [if_pos h1]; simp; omega
    · rw [if_neg h1]; simp; omega

section
open Cert.ReferenceIdeal Cert.ReferenceIdeal.Gen

/-- Two arrays, the second below the first. -/
def stacked (p : FVec Ideal S32768x512 .f32) (q : FVec Ideal S16384x512 .f32) : FVec Ideal S49152x512 .bf16 :=
  truncf .bf16 (concatenate S49152x512 0 [⟨S32768x512, p⟩, ⟨S16384x512, q⟩] concatenates_S32768x512_S16384x512_S49152x512_d0) bitsLt_bf16_f32

theorem stacked_apply (p : FVec Ideal S32768x512 .f32) (q : FVec Ideal S16384x512 .f32) (r : Fin 49152) (k : Fin 512) :
    stacked p q (ix2 r k) = if h : (r : ℕ) < 32768 then p (ix2 ⟨r, h⟩ k) else q (ix2 ⟨r - 32768, by omega⟩ k) := by
  pointwise [stacked]

/-- The reference's result: the eight sequences, then the last one. -/
def whole (V0 : Valuation τ sig (Elt Ideal)) : FVec Ideal S49152x512 .bf16 := stacked (Prompt.part V0) (Sample.part V0)

end

/-- The masked bias tables: minus infinity at a hidden key, else the bucket's bias. -/
def Masked (B : Vec Ideal KernelIdeal.S3x2x512x384 .f32) (rb : Vec Ideal KernelIdeal.S32x8 .f32) : Prop :=
  ∀ (a : Fin 3) (h : Fin 2) (g : Fin 4) (r : Fin 128) (j : Fin 384), B (ix4 a h ⟨128 * g + r, by omega⟩ j)
    = if KernelIdeal.Block.hidden a r j then ⊥ else KernelIdeal.Block.bucketed rb (ix3 r j ⟨4 * h + g, by omega⟩)

/-- The repeated sinks. -/
def Repeated (S : Vec Ideal KernelIdeal.S2x512x1 .f32) (sk : Vec Ideal KernelIdeal.S1x8 .f32) : Prop :=
  ∀ (h : Fin 2) (g : Fin 4) (r : Fin 128), S (ix3 h ⟨128 * g + r, by omega⟩ 0) = sk (ix2 (0 : Fin 1) ⟨4 * h + g, by omega⟩)

/-- Every query and key channel is a number. -/
def Channels (Z : Vec Ideal KernelIdeal.S49152x2816 .bf16) : Prop := ∀ (n : Fin 49152) (k : Fin 640), IsReal (Z (ix2 n ⟨2048 + k, by omega⟩))

section
variable (Z : Vec Ideal KernelIdeal.S49152x2816 .bf16) (B : Vec Ideal KernelIdeal.S3x2x512x384 .f32) (S : Vec Ideal KernelIdeal.S2x512x1 .f32)
  (V0 : Valuation ReferenceIdeal.τ ReferenceIdeal.sig (Elt Ideal)) (rb : Vec Ideal KernelIdeal.S32x8 .f32) (sk : Vec Ideal KernelIdeal.S1x8 .f32)
  (hZ : ReferenceIdeal.Prompt.argZ V0 = Z) (hb : V0 (Proc.devRef .tc ReferenceIdeal.main_arg1) = rb) (hs : ReferenceIdeal.Prompt.argS V0 = sk)
  (hB : Masked B rb) (hS : Repeated S sk) (fZ : Channels Z) (fb : ∀ i, IsReal (rb i)) (fs : ∀ i, IsReal (sk i))
include hZ hb hs hB hS fZ fb fs

/-- A row of the first eight sequences. -/
theorem prompt (b : Fin 8) (n : Fin 32) (h : Fin 2) (g : Fin 4) (r : Fin 128) (d : Fin 64) :
    KernelIdeal.Block.attended Z B S ⟨32 * b + n, by omega⟩ r g ⟨64 * h + d, by omega⟩ h
      = ReferenceIdeal.Prompt.part V0 (ix2 ⟨4096 * b + 128 * n + r, by omega⟩ ⟨128 * g + 64 * h + d, by omega⟩) := by
  have key : ∀ j : Fin 384, ¬ ReferenceIdeal.Prompt.outside n j →
      ReferenceIdeal.Prompt.row b (128 * n + j) = KernelIdeal.Block.keyRow ⟨32 * b + n, by omega⟩ j := by
    intro j ho
    apply Fin.ext
    rw [KernelIdeal.Block.keyRow_val]
    unfold ReferenceIdeal.Prompt.outside at ho
    dsimp only [ReferenceIdeal.Prompt.row]
    split_ifs <;> omega
  rw [ReferenceIdeal.Prompt.part_apply]
  unfold KernelIdeal.Block.attended
  unfold Masked at hB
  unfold Repeated at hS
  simp only [hB, hS]
  rw [hZ, hs]
  refine row_eq h (fun j => KernelIdeal.Block.hidden (KernelIdeal.Block.variant (32 * b + n)) r j)
    (fun j => ReferenceIdeal.lit0 (ReferenceIdeal.S128x384.rowMajor (ix2 r j)) = 0#1 ∨ ReferenceIdeal.Prompt.outside n j)
    (fun j => ReferenceIdeal.Prompt.outside n j) ?_ (fun j ho => Or.inr ho)
    (fun d => Z (ix2 ⟨128 * (32 * b + n) + r, by omega⟩ ⟨2048 + (128 * g + d), by omega⟩))
    (fun j d => Z (ix2 (KernelIdeal.Block.keyRow ⟨32 * b + n, by omega⟩ j) ⟨2560 + d, by omega⟩))
    (fun j => KernelIdeal.Block.bucketed rb (ix3 r j ⟨4 * h + g, by omega⟩)) (sk (ix2 (0 : Fin 1) ⟨4 * h + g, by omega⟩))
    (fun j => Z (ix2 (KernelIdeal.Block.keyRow ⟨32 * b + n, by omega⟩ j) ⟨2688 + (64 * h + d), by omega⟩))
    (fun d => ReferenceIdeal.Prompt.argZ V0 (ix2 ⟨0 + 4096 * b + 128 * n + r, by omega⟩ ⟨2048 + (128 * g + 64 * h + d), by omega⟩))
    (fun j d => ReferenceIdeal.Prompt.argZ V0 (ix2 (ReferenceIdeal.Prompt.row b (128 * n + j)) ⟨2560 + (64 * h + d), by omega⟩))
    (fun j => ReferenceIdeal.Bias.bucketed (V0 (Proc.devRef .tc ReferenceIdeal.main_arg1)) (ix3 r j ⟨4 * h + g, by omega⟩))
    _ (fun j => Z (ix2 (ReferenceIdeal.Prompt.row b (128 * n + j)) ⟨2688 + (64 * h + d), by omega⟩))
    ?_ ?_ ?_ rfl ?_ ?_ ?_ ?_ (fs _)
  · intro j
    rw [← prompt_outside b n j]
    unfold KernelIdeal.Block.hidden
    rw [Literals.near]
  · intro d
    rw [hZ]
    exact congrArg Z ((ix2_inj ..).2 ⟨Fin.ext (by dsimp only; omega), Fin.ext (by dsimp only; omega)⟩)
  · intro j ho d
    rw [hZ, key j ho]
  · intro j
    rw [hb, bucketed_eq]
  · intro j ho
    rw [key j ho]
  · intro d
    exact fZ _ ⟨128 * g + d, by omega⟩
  · intro j d
    exact (show (⟨2560 + (d : ℕ), by omega⟩ : Fin 2816) = ⟨2048 + (⟨512 + d, by omega⟩ : Fin 640), by dsimp only; omega⟩ from Fin.ext (by dsimp only; omega)) ▸ fZ _ _
  · intro j
    rw [bucketed_eq]
    obtain ⟨k, hk⟩ := bucketed_mem rb (ix3 r j ⟨4 * h + g, by omega⟩)
    rw [hk]
    exact fb k

/-- A row of the last sequence. -/
theorem sample (b : Fin 1) (n : Fin 128) (h : Fin 2) (g : Fin 4) (r : Fin 128) (d : Fin 64) :
    KernelIdeal.Block.attended Z B S ⟨256 + n, by omega⟩ r g ⟨64 * h + d, by omega⟩ h
      = ReferenceIdeal.Sample.part V0 (ix2 ⟨16384 * b + 128 * n + r, by omega⟩ ⟨128 * g + 64 * h + d, by omega⟩) := by
  have key : ∀ j : Fin 384, ¬ ReferenceIdeal.Sample.outside n j →
      ReferenceIdeal.Sample.row b (128 * n + j) = KernelIdeal.Block.keyRow ⟨256 + n, by omega⟩ j := by
    intro j ho
    apply Fin.ext
    rw [KernelIdeal.Block.keyRow_val]
    unfold ReferenceIdeal.Sample.outside at ho
    dsimp only [ReferenceIdeal.Sample.row]
    split_ifs <;> omega
  have hZ : ReferenceIdeal.Sample.argZ V0 = Z := hZ
  have hs : ReferenceIdeal.Sample.argS V0 = sk := hs
  rw [ReferenceIdeal.Sample.part_apply]
  unfold KernelIdeal.Block.attended
  unfold Masked at hB
  unfold Repeated at hS
  simp only [hB, hS]
  rw [hZ, hs]
  refine row_eq h (fun j => KernelIdeal.Block.hidden (KernelIdeal.Block.variant (256 + n)) r j)
    (fun j => ReferenceIdeal.lit0 (ReferenceIdeal.S128x384.rowMajor (ix2 r j)) = 0#1 ∨ ReferenceIdeal.Sample.outside n j)
    (fun j => ReferenceIdeal.Sample.outside n j) ?_ (fun j ho => Or.inr ho)
    (fun d => Z (ix2 ⟨128 * (256 + n) + r, by omega⟩ ⟨2048 + (128 * g + d), by omega⟩))
    (fun j d => Z (ix2 (KernelIdeal.Block.keyRow ⟨256 + n, by omega⟩ j) ⟨2560 + d, by omega⟩))
    (fun j => KernelIdeal.Block.bucketed rb (ix3 r j ⟨4 * h + g, by omega⟩)) (sk (ix2 (0 : Fin 1) ⟨4 * h + g, by omega⟩))
    (fun j => Z (ix2 (KernelIdeal.Block.keyRow ⟨256 + n, by omega⟩ j) ⟨2688 + (64 * h + d), by omega⟩))
    (fun d => ReferenceIdeal.Sample.argZ V0 (ix2 ⟨32768 + 16384 * b + 128 * n + r, by omega⟩ ⟨2048 + (128 * g + 64 * h + d), by omega⟩))
    (fun j d => ReferenceIdeal.Sample.argZ V0 (ix2 (ReferenceIdeal.Sample.row b (128 * n + j)) ⟨2560 + (64 * h + d), by omega⟩))
    (fun j => ReferenceIdeal.Bias.bucketed (V0 (Proc.devRef .tc ReferenceIdeal.main_arg1)) (ix3 r j ⟨4 * h + g, by omega⟩))
    _ (fun j => Z (ix2 (ReferenceIdeal.Sample.row b (128 * n + j)) ⟨2688 + (64 * h + d), by omega⟩))
    ?_ ?_ ?_ rfl ?_ ?_ ?_ ?_ (fs _)
  · intro j
    rw [← sample_outside b n j]
    unfold KernelIdeal.Block.hidden
    rw [Literals.near]
  · intro d
    rw [hZ]
    exact congrArg Z ((ix2_inj ..).2 ⟨Fin.ext (by dsimp only; omega), Fin.ext (by dsimp only; omega)⟩)
  · intro j ho d
    rw [hZ, key j ho]
  · intro j
    rw [hb, bucketed_eq]
  · intro j ho
    rw [key j ho]
  · intro d
    exact fZ _ ⟨128 * g + d, by omega⟩
  · intro j d
    exact (show (⟨2560 + (d : ℕ), by omega⟩ : Fin 2816) = ⟨2048 + (⟨512 + d, by omega⟩ : Fin 640), by dsimp only; omega⟩ from Fin.ext (by dsimp only; omega)) ▸ fZ _ _
  · intro j
    rw [bucketed_eq]
    obtain ⟨k, hk⟩ := bucketed_mem rb (ix3 r j ⟨4 * h + g, by omega⟩)
    rw [hk]
    exact fb k
/-- The kernel's array is the reference's. -/
theorem result_eq : KernelIdeal.Block.result Z B S = whole V0 := by
  funext i
  idx_vars i
  unfold whole
  rw [stacked_apply]
  have hh : (if (i1 : ℕ) % 128 < 64 then (0 : Fin 2) else 1) = ⟨(i1 : ℕ) % 128 / 64, by omega⟩ := by
    by_cases h : (i1 : ℕ) % 128 < 64
    · rw [if_pos h]; exact Fin.ext (by dsimp only [Fin.val_zero]; omega)
    · rw [if_neg h]; exact Fin.ext (by dsimp only [Fin.val_one]; omega)
  by_cases hr : (i0 : ℕ) < 32768
  · rw [dif_pos hr]
    have e := prompt Z B S V0 rb sk hZ hb hs hB hS fZ fb fs ⟨(i0 : ℕ) / 4096, by omega⟩ ⟨(i0 : ℕ) % 4096 / 128, by omega⟩ ⟨(i1 : ℕ) % 128 / 64, by omega⟩
      ⟨(i1 : ℕ) / 128, by omega⟩ ⟨(i0 : ℕ) % 128, by omega⟩ ⟨(i1 : ℕ) % 64, by omega⟩
    refine Eq.trans ?_ (e.trans (congrArg (ReferenceIdeal.Prompt.part V0) ((ix2_inj ..).2 ⟨Fin.ext ?_, Fin.ext ?_⟩)))
    · show KernelIdeal.Block.attended Z B S _ _ _ _ (if (i1 : ℕ) % 128 < 64 then 0 else 1) = _
      rw [hh]
      congr 1 <;> exact Fin.ext (by simp only [ix2_0, ix2_1]; omega)
    · dsimp only; omega
    · dsimp only; omega
  · rw [dif_neg hr]
    have e := sample Z B S V0 rb sk hZ hb hs hB hS fZ fb fs 0 ⟨((i0 : ℕ) - 32768) / 128, by omega⟩ ⟨(i1 : ℕ) % 128 / 64, by omega⟩
      ⟨(i1 : ℕ) / 128, by omega⟩ ⟨(i0 : ℕ) % 128, by omega⟩ ⟨(i1 : ℕ) % 64, by omega⟩
    refine Eq.trans ?_ (e.trans (congrArg (ReferenceIdeal.Sample.part V0) ((ix2_inj ..).2 ⟨Fin.ext ?_, Fin.ext ?_⟩)))
    · show KernelIdeal.Block.attended Z B S _ _ _ _ (if (i1 : ℕ) % 128 < 64 then 0 else 1) = _
      rw [hh]
      congr 1 <;> exact Fin.ext (by simp only [ix2_0, ix2_1]; omega)
    · simp only [Fin.val_zero]; omega
    · dsimp only; omega

end

end Cert.Equation
-- ==== Proof.Finite.lean ====
/- What the precondition says of the arguments' entries. -/
module

public import proofs.«01_k».proof.Defs
public import proofs.«01_k».proof.Proof.Equation

@[expose] public section

set_option maxRecDepth 16384

noncomputable section

open Idealize.ShloMosaic Cert.Equation

namespace Cert.Finite

instance facts : Cert.Pre_finite.Facts where
  slices_S49152x2816_S49152x640_0_2048 := by decide +kernel
  bitsLt_bf16_f32 := by decide
  shapeCasts_S49152x640_S31457280 := by decide +kernel
  shapeCasts_S32x8_S256 := by decide +kernel
  shapeCasts_S1x8_S8 := by decide +kernel
  concatenates_S31457280_S256_S8_S31457544_d0 := by decide +kernel
  bcast_S_S31457544 := by decide +kernel

variable (Z : FVec Ideal Pre_finite.S49152x2816 .bf16) (rb : FVec Ideal Pre_finite.S32x8 .f32) (sk : FVec Ideal Pre_finite.S1x8 .f32)

/-- An entry whose absolute value compares below plus infinity is a number. -/
theorem real_of (x : EReal) (h : BitVec.ofBool (decide (FloatOps.absf (F := Ideal) (φ := .f32) x < Ideal.ofBits .f32 0x7F800000#32)) = 1#1) : IsReal x := by
  have ht : Ideal.ofBits .f32 0x7F800000#32 = ⊤ := by simp [Ideal.ofBits, Ideal.ieee]
  rw [ht] at h
  constructor
  · rintro rfl
    simp [FloatOps.absf] at h
  · rintro rfl
    simp [FloatOps.absf] at h

variable (hp : Pre_finite.fn (F := Ideal) Z rb sk = fun _ => 1#1)
include hp

/-- Every query and key channel is a number. -/
theorem channel : Channels Z := by
  intro n k
  have h := congrFun hp (ix1 ⟨640 * n + k, by omega⟩)
  revert h
  pointwise [Pre_finite.fn]
  rw [dif_pos (by omega)]
  exact real_of _

/-- Every entry of the bias array is a number. -/
theorem bias (i : Pre_finite.S32x8.Idx) : IsReal (rb i) := by
  idx_vars i
  have h := congrFun hp (ix1 ⟨31457280 + (8 * i0 + i1), by omega⟩)
  revert h
  pointwise [Pre_finite.fn]
  rw [dif_pos (by omega)]
  exact real_of _

/-- Every sink is a number. -/
theorem sink (i : Pre_finite.S1x8.Idx) : IsReal (sk i) := by
  idx_vars i
  have h := congrFun hp (ix1 ⟨31457536 + i1, by omega⟩)
  revert h
  pointwise [Pre_finite.fn]
  rw [dif_neg (by omega), dif_neg (by omega)]
  intro h
  have e : sk (ix2 i0 i1) = sk (ix2 0 ⟨31457536 + (i1 : ℕ) - 31457280 - 256, by omega⟩) :=
    congrArg sk ((ix2_inj ..).2 ⟨Subsingleton.elim _ _, Fin.ext (by dsimp only; omega)⟩)
  rw [e]
  exact real_of _ h

end Cert.Finite
-- ==== Proof.ExpertsRun.lean ====
/- The experts' body at one grid point, run once per branch: a live block stores its feed-forward rows, a dead block zeros. -/
module

public import proofs.«01_k».proof.Proof.Gen.Experts.Skeleton
public import proofs.«01_k».proof.Proof.Gen.Experts.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.BitExact

@[expose] public section

set_option maxRecDepth 16384
set_option Elab.async false

noncomputable section

namespace Cert.Experts.Tables

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The two tables as the body is handed them. -/
abbrev owners : Memref sig .tc .smem S416 .i32 := Memref.whole main_arg1
abbrev counts : Memref sig .tc .smem S1 .i32 := Memref.whole main_arg2

/-- The number of live blocks, as the body reads it from its table. -/
abbrev liveWord (T1 : S1.Idx → Elt Bits .i32) : BitVec 32 :=
  View.readAt (Elt Bits) counts.view (Rect.unit (s := S1) ![0] S1.size inb_S1_S1_0).toLoadRect T1 (Shape.Idx.first (numel1_S1.symm ▸ Nat.one_pos))

/-- One staging buffer of the result, through which what a block stores is stated. -/
abbrev outView : View sig .tc .vmem S512x1024 .bf16 := (Memref.whole cc0_stg5_0 : Memref sig .tc .vmem S512x1024 .bf16).view

set_option backward.proofsInPublic true in
set_option maxHeartbeats 8000000 in
/-- A live block: from the five staged inputs and the tables the body runs, keeps them, and stores the pieces found here. -/
noncomputable def liveRun (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S512x1024 .bf16) (harg8 : arg8.IsWhole)
    (T0 : S416.Idx → Elt Bits .i32) (T1 : S1.Idx → Elt Bits .i32)
    (x0 : S512x1024.Idx → Elt Bits .bf16) (x1 : S1x1024x2048.Idx → Elt Bits .bf16) (x2 : S1x1x2048.Idx → Elt Bits .f32) (x3 : S1x1024x1024.Idx → Elt Bits .bf16) (x4 : S1x1x1024.Idx → Elt Bits .f32)
    (h1 : k0_cond1 i (liveWord T1) = 1#1) (h2 : ¬ k0_cond2 i (liveWord T1) = 1#1) :
    { out0 : List (View.Piece (Elt Bits) S512x1024 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (owners.view.loc (c : Thread nD τ) ↦{fullShare.right} T0)
          ∗ (counts.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (owners.view.loc (c : Thread nD τ) ↦{fullShare.right} T0)
              ∗ (counts.view.loc (c : Thread nD τ) ↦{fullShare.right} T1)
              ∗ (∃ f, arg8.view.loc (c : Thread nD τ) ↦[arg8.view.set]{fullShare} arg8.view.writes (Elt Bits) f out0)) -∗ K ⟨⟩))
          ⊢ wp frame (wpE (defs₀ (F := Bits)) Variants.none c none) Set.univ (cc0_experts i owners (Memref.isWhole_whole _) counts (Memref.isWhole_whole _) arg3 harg3 arg4 harg4 arg5 harg5 arg6 harg6 arg7 harg7 arg8 harg8) K } :=
  ⟨_, fun K => by
    unfold owns
    rw [cc0_experts_eq_skeleton]; unfold cc0_experts_skel
    rw [k0_part1_eq_skeleton]; unfold k0_part1_skel
    iintro ⟨H0, H1, H2, H3, H4, HT0, HT1, ⟨%d5, %f5, -, HO5⟩, Hk⟩
    have hT0 : owners.IsWhole := Memref.isWhole_whole _
    have hT1 : counts.IsWhole := Memref.isWhole_whole _
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

set_option backward.proofsInPublic true in
set_option maxHeartbeats 8000000 in
/-- A dead block: the body reads no input and stores the pieces found here. -/
noncomputable def deadRun (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S512x1024 .bf16) (harg8 : arg8.IsWhole)
    (T0 : S416.Idx → Elt Bits .i32) (T1 : S1.Idx → Elt Bits .i32)
    (h1 : ¬ k0_cond1 i (liveWord T1) = 1#1) (h2 : k0_cond2 i (liveWord T1) = 1#1) :
    { out0 : List (View.Piece (Elt Bits) S512x1024 .bf16) //
      ∀ (K : PUnit → sProp 𝕄),
        iprop((owners.view.loc (c : Thread nD τ) ↦{fullShare.right} T0)
          ∗ (counts.view.loc (c : Thread nD τ) ↦{fullShare.right} T1)
          ∗ (∃ d, owns (c : Thread nD τ) arg8 fullShare d)
          ∗ (iprop((owners.view.loc (c : Thread nD τ) ↦{fullShare.right} T0)
              ∗ (counts.view.loc (c : Thread nD τ) ↦{fullShare.right} T1)
              ∗ (∃ f, arg8.view.loc (c : Thread nD τ) ↦[arg8.view.set]{fullShare} arg8.view.writes (Elt Bits) f out0)) -∗ K ⟨⟩))
          ⊢ wp frame (wpE (defs₀ (F := Bits)) Variants.none c none) Set.univ (cc0_experts i owners (Memref.isWhole_whole _) counts (Memref.isWhole_whole _) arg3 harg3 arg4 harg4 arg5 harg5 arg6 harg6 arg7 harg7 arg8 harg8) K } :=
  ⟨_, fun K => by
    unfold owns
    rw [cc0_experts_eq_skeleton]; unfold cc0_experts_skel
    iintro ⟨HT0, HT1, ⟨%d5, %f5, -, HO5⟩, Hk⟩
    have hT0 : owners.IsWhole := Memref.isWhole_whole _
    have hT1 : counts.IsWhole := Memref.isWhole_whole _
    sl_exec! (disch := first | (guard_target = ¬(k0_cond1 _ _ = _); exact h1) | (guard_target = k0_cond2 _ _ = _; exact h2))
    sl_step
    iapply Hk
    isplitl [HT0]; · iexact HT0
    isplitl [HT1]; · iexact HT1
    iexists _; iexact HO5⟩

variable (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S512x1024 .bf16) (harg8 : arg8.IsWhole)
  (T0 : S416.Idx → Elt Bits .i32) (T1 : S1.Idx → Elt Bits .i32)
  (x0 : S512x1024.Idx → Elt Bits .bf16) (x1 : S1x1024x2048.Idx → Elt Bits .bf16) (x2 : S1x1x2048.Idx → Elt Bits .f32) (x3 : S1x1024x1024.Idx → Elt Bits .bf16) (x4 : S1x1x1024.Idx → Elt Bits .f32)

/-- The one store of a live block covers its whole tile. -/
theorem live_cover (h1 : k0_cond1 i (liveWord T1) = 1#1) (h2 : ¬ k0_cond2 i (liveWord T1) = 1#1) (y : S512x1024.Idx) :
    ∃ pc ∈ (liveRun c i arg3 harg3 arg4 harg4 arg5 harg5 arg6 harg6 arg7 harg7 arg8 harg8 T0 T1 x0 x1 x2 x3 x4 h1 h2).1, y ∈ pc.1.set :=
  View.cover_of_tiledL (liveRun c i arg3 harg3 arg4 harg4 arg5 harg5 arg6 harg6 arg7 harg7 arg8 harg8 T0 T1 x0 x1 x2 x3 x4 h1 h2).1 S512x1024.size (by sl_kernel_rfl) y

/-- The one store of a dead block covers its whole tile. -/
theorem dead_cover (h1 : ¬ k0_cond1 i (liveWord T1) = 1#1) (h2 : k0_cond2 i (liveWord T1) = 1#1) (y : S512x1024.Idx) :
    ∃ pc ∈ (deadRun c i arg3 harg3 arg4 harg4 arg5 harg5 arg6 harg6 arg7 harg7 arg8 harg8 T0 T1 h1 h2).1, y ∈ pc.1.set :=
  View.cover_of_tiledL (deadRun c i arg3 harg3 arg4 harg4 arg5 harg5 arg6 harg6 arg7 harg7 arg8 harg8 T0 T1 h1 h2).1 S512x1024.size (by sl_kernel_rfl) y

/-- What a live block leaves in the result's staging buffer. -/
def liveOut (h1 : k0_cond1 i (liveWord T1) = 1#1) (h2 : ¬ k0_cond2 i (liveWord T1) = 1#1) : S512x1024.Idx → Elt Bits .bf16 :=
  outView.read (Elt Bits) (outView.writes (Elt Bits) outView.junk (liveRun c i arg3 harg3 arg4 harg4 arg5 harg5 arg6 harg6 arg7 harg7 arg8 harg8 T0 T1 x0 x1 x2 x3 x4 h1 h2).1)

/-- What a dead block leaves there. -/
def deadOut (h1 : ¬ k0_cond1 i (liveWord T1) = 1#1) (h2 : k0_cond2 i (liveWord T1) = 1#1) : S512x1024.Idx → Elt Bits .bf16 :=
  outView.read (Elt Bits) (outView.writes (Elt Bits) outView.junk (deadRun c i arg3 harg3 arg4 harg4 arg5 harg5 arg6 harg6 arg7 harg7 arg8 harg8 T0 T1 h1 h2).1)

/-- The second branch runs exactly when the first does not. -/
theorem cond2_iff (w : BitVec 32) : k0_cond2 i w = 1#1 ↔ ¬ k0_cond1 i w = 1#1 := by
  have hs : ∀ p q : BitVec 32, p.sle q = !(q.slt p) := fun p q => by
    simp only [BitVec.sle, BitVec.slt, ← decide_not, not_lt]
  unfold k0_cond1 k0_cond2
  simp only [Scalar.cmpi, Scalar.extui, IntOp.cmpi, hs]
  cases (BitVec.ofNat 32 (i 0).val).slt w <;> decide

end Cert.Experts.Tables

end
-- ==== Proof.ExpertsFrame.lean ====
/- The experts' launch at any admissible contents of the two tables: it terminates, keeps its arguments, and leaves in the result
   array, block by block, what the body stores there. -/
module

public import proofs.«01_k».proof.Proof.ExpertsRun
public import Idealize.ShloMosaic.Lib.Claim
public import Idealize.ShloMosaic.Lib.Pipeline.TableIdle
public import Idealize.ShloMosaic.Adequacy
public import Idealize.ShloMosaic.Init

@[expose] public section

set_option maxRecDepth 16384
set_option Elab.async false

noncomputable section

namespace Cert.Experts.Tables

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Bits) ℕ (UR sig nD τ) ℕ

/-- The resource algebra of the staging cells, taken whole. -/
abbrev cells : Emb (UR sig nD τ) 𝕄 := emb₁

variable (a : (pcfg0 (F := Bits)).Adm)
variable (m : (ℓ : Loc nD τ sig) → Buf (Elt Bits) ℓ) (ρ : Dev nD → PrngReg)

/-- The pipeline at the tables `a`. -/
abbrev at_ : Pipeline.Cfg sig Λ₀ := cfg0 (F := Bits) a
abbrev pinned : Fin 1 → Pipeline.Cfg sig Λ₀ := Pipeline.pin (pcfgs (F := Bits)) fun _ => a

/-- The launch memory's tables are `a`. -/
def Holds (m : (ℓ : Loc nD τ sig) → Buf (Elt Bits) ℓ) : Prop :=
  (∀ c : Dev nD, m ((c : Thread nD τ).loc main_arg1) = a.1 0) ∧ (∀ c : Dev nD, m ((c : Thread nD τ).loc main_arg2) = a.1 1)

/-- The two tables, at their literal types. -/
abbrev tab0 : S416.Idx → Elt Bits .i32 := a.1 0
abbrev tab1 : S1.Idx → Elt Bits .i32 := a.1 1

/-- Point `t`'s coordinates, and each window's staging buffer there. -/
abbrev crd (t : Fin (at_ a).N) : (at_ a).grid.Coords := (at_ a).grid.coords t
abbrev st0 (t : Fin (at_ a).N) : Memref sig .tc .vmem S512x1024 .bf16 := spec0_0.stage ((at_ a).slots t (0 : Fin 6))
abbrev wh0 (t : Fin (at_ a).N) : (st0 a t).IsWhole := hstage0_0 (((at_ a).slots t (0 : Fin 6)).cast nbuf0_0)
abbrev st1 (t : Fin (at_ a).N) : Memref sig .tc .vmem S1x1024x2048 .bf16 := spec0_1.stage ((at_ a).slots t (1 : Fin 6))
abbrev wh1 (t : Fin (at_ a).N) : (st1 a t).IsWhole := hstage0_1 (((at_ a).slots t (1 : Fin 6)).cast nbuf0_1)
abbrev st2 (t : Fin (at_ a).N) : Memref sig .tc .vmem S1x1x2048 .f32 := spec0_2.stage ((at_ a).slots t (2 : Fin 6))
abbrev wh2 (t : Fin (at_ a).N) : (st2 a t).IsWhole := hstage0_2 (((at_ a).slots t (2 : Fin 6)).cast nbuf0_2)
abbrev st3 (t : Fin (at_ a).N) : Memref sig .tc .vmem S1x1024x1024 .bf16 := spec0_3.stage ((at_ a).slots t (3 : Fin 6))
abbrev wh3 (t : Fin (at_ a).N) : (st3 a t).IsWhole := hstage0_3 (((at_ a).slots t (3 : Fin 6)).cast nbuf0_3)
abbrev st4 (t : Fin (at_ a).N) : Memref sig .tc .vmem S1x1x1024 .f32 := spec0_4.stage ((at_ a).slots t (4 : Fin 6))
abbrev wh4 (t : Fin (at_ a).N) : (st4 a t).IsWhole := hstage0_4 (((at_ a).slots t (4 : Fin 6)).cast nbuf0_4)
abbrev st5 (t : Fin (at_ a).N) : Memref sig .tc .vmem S512x1024 .bf16 := spec0_5.stage ((at_ a).slots t (5 : Fin 6))
abbrev wh5 (t : Fin (at_ a).N) : (st5 a t).IsWhole := hstage0_5 (((at_ a).slots t (5 : Fin 6)).cast nbuf0_5)

/-- Window `w`'s block at point `t`, read off its array at launch. -/
def blkAt (c : Dev nD) (w : Fin (at_ a).W) (t : Fin (at_ a).N) : (((at_ a).win w).xblock (crd a t)).Idx → Elt Bits ((at_ a).win w).elt :=
  (((at_ a).win w).blk t).view.read (Elt Bits) ((s₀ m ρ).mem (((at_ a).win w).arr.view.loc (c : Thread nD τ)))

/-- Whether block `t` is live, by the tables' word. -/
abbrev Live (t : Fin (at_ a).N) : Prop := k0_cond1 (crd a t) (liveWord (tab1 a)) = 1#1

/-- The result's block after point `t`: a live block's rows, a dead block's zeros. -/
def stored (c : Dev nD) (t : Fin (at_ a).N) : S512x1024.Idx → Elt Bits .bf16 :=
  if h : Live a t then
    liveOut c (crd a t) (st0 a t) (wh0 a t) (st1 a t) (wh1 a t) (st2 a t) (wh2 a t) (st3 a t) (wh3 a t) (st4 a t) (wh4 a t) (st5 a t) (wh5 a t) (tab0 a) (tab1 a)
      (blkAt a m ρ c (0 : Fin 6) t) (blkAt a m ρ c (1 : Fin 6) t) (blkAt a m ρ c (2 : Fin 6) t) (blkAt a m ρ c (3 : Fin 6) t) (blkAt a m ρ c (4 : Fin 6) t)
      h (fun h2 => (cond2_iff _ _).1 h2 h)
  else
    deadOut c (crd a t) (st0 a t) (wh0 a t) (st1 a t) (wh1 a t) (st2 a t) (wh2 a t) (st3 a t) (wh3 a t) (st4 a t) (wh4 a t) (st5 a t) (wh5 a t) (tab0 a) (tab1 a)
      h ((cond2_iff _ _).2 h)

/-- The body's halves of the two tables, held throughout. -/
def Tabs (c : Dev nD) : sProp 𝕄 :=
  iprop((owners.view.loc (c : Thread nD τ) ↦{fullShare.right} tab0 a) ∗ (counts.view.loc (c : Thread nD τ) ↦{fullShare.right} tab1 a))

/-- The pipeline's proof data on core `c`: the inputs keep their blocks, the result's block is what the point stores. -/
def dats (_ : Fin 1) (c : Dev nD) : Dat τ (Elt Bits) Unit ℕ (UR sig nD τ) ℕ (at_ a) c where
  A w := (s₀ m ρ).mem (((at_ a).win w).arr.view.loc (c : Thread nD τ))
  after w t := match w with
    | ⟨0, _⟩ => blkAt a m ρ c (0 : Fin 6) t
    | ⟨1, _⟩ => blkAt a m ρ c (1 : Fin 6) t
    | ⟨2, _⟩ => blkAt a m ρ c (2 : Fin 6) t
    | ⟨3, _⟩ => blkAt a m ρ c (3 : Fin 6) t
    | ⟨4, _⟩ => blkAt a m ρ c (4 : Fin 6) t
    | ⟨5, _⟩ => stored a m ρ c t
  Φ _ := Tabs a c
  q _ := fullShare
  owed _ := 0

theorem after0 (c : Dev nD) (t : Fin (at_ a).N) : (dats a m ρ 0 c).after (0 : Fin 6) t = blkAt a m ρ c (0 : Fin 6) t := rfl
theorem after1 (c : Dev nD) (t : Fin (at_ a).N) : (dats a m ρ 0 c).after (1 : Fin 6) t = blkAt a m ρ c (1 : Fin 6) t := rfl
theorem after2 (c : Dev nD) (t : Fin (at_ a).N) : (dats a m ρ 0 c).after (2 : Fin 6) t = blkAt a m ρ c (2 : Fin 6) t := rfl
theorem after3 (c : Dev nD) (t : Fin (at_ a).N) : (dats a m ρ 0 c).after (3 : Fin 6) t = blkAt a m ρ c (3 : Fin 6) t := rfl
theorem after4 (c : Dev nD) (t : Fin (at_ a).N) : (dats a m ρ 0 c).after (4 : Fin 6) t = blkAt a m ρ c (4 : Fin 6) t := rfl
theorem after5 (c : Dev nD) (t : Fin (at_ a).N) : (dats a m ρ 0 c).after (5 : Fin 6) t = stored a m ρ c t := rfl

/-- An input's staging buffer holds its block when the body runs, fetched at this point or earlier. -/
theorem before0 (c : Dev nD) (t : Fin (at_ a).N) (d) : (dats a m ρ 0 c).before (0 : Fin 6) t d = blkAt a m ρ c (0 : Fin 6) t :=
  ((dats a m ρ 0 c).before_in_eq_fetched (0 : Fin 6) rfl (fun _ => rfl) (fun _ _ _ => rfl) (fun t => by rw [after0]; unfold Dat.blockOf blkAt; rfl) t d).trans
    (by unfold Dat.fetched Dat.blockOf blkAt; rfl)
theorem before1 (c : Dev nD) (t : Fin (at_ a).N) (d) : (dats a m ρ 0 c).before (1 : Fin 6) t d = blkAt a m ρ c (1 : Fin 6) t :=
  ((dats a m ρ 0 c).before_in_eq_fetched (1 : Fin 6) rfl (fun _ => rfl) (fun _ _ _ => rfl) (fun t => by rw [after1]; unfold Dat.blockOf blkAt; rfl) t d).trans
    (by unfold Dat.fetched Dat.blockOf blkAt; rfl)
theorem before2 (c : Dev nD) (t : Fin (at_ a).N) (d) : (dats a m ρ 0 c).before (2 : Fin 6) t d = blkAt a m ρ c (2 : Fin 6) t :=
  ((dats a m ρ 0 c).before_in_eq_fetched (2 : Fin 6) rfl (fun _ => rfl) (fun _ _ _ => rfl) (fun t => by rw [after2]; unfold Dat.blockOf blkAt; rfl) t d).trans
    (by unfold Dat.fetched Dat.blockOf blkAt; rfl)
theorem before3 (c : Dev nD) (t : Fin (at_ a).N) (d) : (dats a m ρ 0 c).before (3 : Fin 6) t d = blkAt a m ρ c (3 : Fin 6) t :=
  ((dats a m ρ 0 c).before_in_eq_fetched (3 : Fin 6) rfl (fun _ => rfl) (fun _ _ _ => rfl) (fun t => by rw [after3]; unfold Dat.blockOf blkAt; rfl) t d).trans
    (by unfold Dat.fetched Dat.blockOf blkAt; rfl)
theorem before4 (c : Dev nD) (t : Fin (at_ a).N) (d) : (dats a m ρ 0 c).before (4 : Fin 6) t d = blkAt a m ρ c (4 : Fin 6) t :=
  ((dats a m ρ 0 c).before_in_eq_fetched (4 : Fin 6) rfl (fun _ => rfl) (fun _ _ _ => rfl) (fun t => by rw [after4]; unfold Dat.blockOf blkAt; rfl) t d).trans
    (by unfold Dat.fetched Dat.blockOf blkAt; rfl)

/-- The word a table lookup reads at offset zero is the word the body's load reads. -/
theorem word_eq : a.1.atD 1 ![0] = liveWord (tab1 a) := by
  unfold Pipeline.Prefetch.Contents.atD
  rw [dif_pos (by decide)]
  rfl

/-- One of the two branches always stores: the result's window is never left alone. -/
theorem busy (t : Fin (at_ a).N) : (at_ a).idle (5 : Fin 6) ((at_ a).grid.coords t) = false := by
  show idle0 a.1 5 (crd a t) = false
  show (!(k0_cond1 (crd a t) (a.1.atD 1 ![0]) == 1#1) && !(k0_cond2 (crd a t) (a.1.atD 1 ![0]) == 1#1)) = false
  by_cases h : k0_cond1 (crd a t) (a.1.atD 1 ![0]) = 1#1
  · simp [h]
  · simp [(cond2_iff _ _).2 h]

/-- The body at point `t`, as the pipeline calls it. -/
abbrev bodyAt (t : Fin (at_ a).N) : Prog (TpuEff nD τ sig (Elt Bits) Λ₀ .tc) PUnit :=
  cc0_experts (crd a t) (Memref.whole main_arg1) (Memref.isWhole_whole _) (Memref.whole main_arg2) (Memref.isWhole_whole _) (st0 a t) (wh0 a t) (st1 a t) (wh1 a t) (st2 a t) (wh2 a t) (st3 a t) (wh3 a t) (st4 a t) (wh4 a t) (st5 a t) (wh5 a t)

set_option maxHeartbeats 4000000 in
/-- From the staged inputs and the tables, the body at point `t` ends with the inputs kept and the result's block stored. -/
theorem body_sound (c : Dev nD) (t : Fin (at_ a).N) :
    iprop((dats a m ρ 0 c).Φ t.castSucc ∗ (dats a m ρ 0 c).owesAt () t.castSucc
        ∗ (∃ d, owns (c : Thread nD τ) (st0 a t) fullShare ((dats a m ρ 0 c).before (0 : Fin 6) t d))
        ∗ (∃ d, owns (c : Thread nD τ) (st1 a t) fullShare ((dats a m ρ 0 c).before (1 : Fin 6) t d))
        ∗ (∃ d, owns (c : Thread nD τ) (st2 a t) fullShare ((dats a m ρ 0 c).before (2 : Fin 6) t d))
        ∗ (∃ d, owns (c : Thread nD τ) (st3 a t) fullShare ((dats a m ρ 0 c).before (3 : Fin 6) t d))
        ∗ (∃ d, owns (c : Thread nD τ) (st4 a t) fullShare ((dats a m ρ 0 c).before (4 : Fin 6) t d))
        ∗ (∃ d, owns (c : Thread nD τ) (st5 a t) fullShare ((dats a m ρ 0 c).before (5 : Fin 6) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (at_ a).W =>
                match (at_ a).idle w ((at_ a).grid.coords t) with
                | true =>
                  match ((at_ a).win w).flush t with
                  | false => iprop(∃ d, owns (c : Thread nD τ) (((at_ a).win w).stage ((at_ a).slots t w)) fullShare ((dats a m ρ 0 c).before w t d))
                  | true => owns (c : Thread nD τ) (((at_ a).win w).stage ((at_ a).slots t w)) fullShare ((dats a m ρ 0 c).after w t)
                | false => owns (c : Thread nD τ) (((at_ a).win w).stage ((at_ a).slots t w)) fullShare ((dats a m ρ 0 c).after w t)) := by
  rw [bigSep_W0]
  have i5 := busy a t
  rewrite [i5]
  simp only [before0, before1, before2, before3, before4, after0, after1, after2, after3, after4, after5]
  rewrite [show (dats a m ρ 0 c).Φ t.succ = Tabs a c from rfl, show (dats a m ρ 0 c).Φ t.castSucc = Tabs a c from rfl,
    show (dats a m ρ 0 c).owesAt () t.succ = (dats a m ρ 0 c).owesAt () t.castSucc from rfl]
  by_cases h1 : Live a t
  · have h2 : ¬ k0_cond2 (crd a t) (liveWord (tab1 a)) = 1#1 := fun h2 => (cond2_iff _ _).1 h2 h1
    have hs : stored a m ρ c t = liveOut c (crd a t) (st0 a t) (wh0 a t) (st1 a t) (wh1 a t) (st2 a t) (wh2 a t) (st3 a t) (wh3 a t) (st4 a t) (wh4 a t) (st5 a t) (wh5 a t) (tab0 a) (tab1 a)
        (blkAt a m ρ c (0 : Fin 6) t) (blkAt a m ρ c (1 : Fin 6) t) (blkAt a m ρ c (2 : Fin 6) t) (blkAt a m ρ c (3 : Fin 6) t) (blkAt a m ρ c (4 : Fin 6) t) h1 h2 := by
      unfold stored; rw [dif_pos h1]
    rw [hs]
    unfold Tabs
    iintro ⟨⟨HT0, HT1⟩, Ho, ⟨%d0, H0⟩, ⟨%d1, H1⟩, ⟨%d2, H2⟩, ⟨%d3, H3⟩, ⟨%d4, H4⟩, ⟨%d5, H5⟩⟩
    iapply ((liveRun c (crd a t) (st0 a t) (wh0 a t) (st1 a t) (wh1 a t) (st2 a t) (wh2 a t) (st3 a t) (wh3 a t) (st4 a t) (wh4 a t) (st5 a t) (wh5 a t) (tab0 a) (tab1 a)
      (blkAt a m ρ c (0 : Fin 6) t) (blkAt a m ρ c (1 : Fin 6) t) (blkAt a m ρ c (2 : Fin 6) t) (blkAt a m ρ c (3 : Fin 6) t) (blkAt a m ρ c (4 : Fin 6) t) h1 h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (live_cover c _ _ _ _ _ _ _ _ _ _ _ _ _ _ _ _ _ _ _ _ _ _)
  · have h2 : k0_cond2 (crd a t) (liveWord (tab1 a)) = 1#1 := (cond2_iff _ _).2 h1
    have hs : stored a m ρ c t = deadOut c (crd a t) (st0 a t) (wh0 a t) (st1 a t) (wh1 a t) (st2 a t) (wh2 a t) (st3 a t) (wh3 a t) (st4 a t) (wh4 a t) (st5 a t) (wh5 a t) (tab0 a) (tab1 a) h1 h2 := by
      unfold stored; rw [dif_neg h1]
    rw [hs]
    unfold Tabs
    iintro ⟨⟨HT0, HT1⟩, Ho, ⟨%d0, H0⟩, ⟨%d1, H1⟩, ⟨%d2, H2⟩, ⟨%d3, H3⟩, ⟨%d4, H4⟩, ⟨%d5, H5⟩⟩
    iapply ((deadRun c (crd a t) (st0 a t) (wh0 a t) (st1 a t) (wh1 a t) (st2 a t) (wh2 a t) (st3 a t) (wh3 a t) (st4 a t) (wh4 a t) (st5 a t) (wh5 a t) (tab0 a) (tab1 a) h1 h2).2 _)
    isplitl [HT0]; · iexact HT0
    isplitl [HT1]; · iexact HT1
    isplitl [H5]; · iexists _; iexact H5
    iintro ⟨HT0, HT1, ⟨%e5, H5⟩⟩
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr; swap
    · iexact H5
    · ipureintro; exact View.read_writes_of_cover _ _ _ _ _ (dead_cover c _ _ _ _ _ _ _ _ _ _ _ _ _ _ _ _ _)

/-- So it does at every point. -/
theorem body_holds (c : Dev nD) : BodyObligation (dats a m ρ 0 c) (defs₀ (F := Bits)) Variants.none () Set.univ := fun t => by
  rw [bigSep_W0]
  exact body_sound a m ρ c t

/-- The staging cells' element at launch. -/
def start : UR sig nD τ :=
  initOf (Pipeline.cells (pinned a) ((launch0 (F := Bits)).cellOf_inj fun _ => a))
    (Pipeline.launchToks (pinned a) ((launch0 (F := Bits)).cellOf_inj fun _ => a))

/-- Every array is held whole. -/
theorem share_full (c : Dev nD) (w : Fin (at_ a).W) : (dats a m ρ 0 c).share w = fullShare := by unfold Dat.share; split <;> rfl

/-- The launch's tables, one by one. -/
theorem tables_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The tables enter the invariant at the first point, -/
theorem tabs_in (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = Tabs a c from rfl]
  unfold Tabs
  iintro ⟨-, ⟨HT0, HT1⟩, -⟩
  isplitl [HT0]
  · iexact HT0
  iexact HT1

/-- and are let go after the last. -/
theorem tabs_out (c : Dev nD) : (dats a m ρ 0 c).Φ (Fin.last (at_ a).N) ⊢ iprop(BI.emp ∗ Pipeline.scopedRest spec0 c) := by
  rw [scopedRest0_eq, show (dats a m ρ 0 c).Φ (Fin.last (at_ a).N) = Tabs a c from rfl]
  unfold Tabs
  iintro ⟨-, -⟩
  isplitr; · iempintro
  iempintro

/-- Every array ends at what the points left in it, and every table at `a`. -/
def Ends : PUnit × MemSt nD τ sig (Elt Bits) → Prop := fun r =>
  ∀ c : Dev nD, (∀ w : Fin (at_ a).W, r.2.mem (((at_ a).win w).arr.view.loc (c : Thread nD τ)) = (dats a m ρ 0 c).arrAt w (at_ a).N)
    ∧ ∀ j, r.2.mem ((c : Thread nD τ).loc (pre0.ref j)) = a.1 j

theorem tables_held (hp : Holds a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From a memory whose tables are `a`, every run ends as `Ends` says, every semaphore at zero. -/
theorem run_quiet (hp : Holds a m) : θ_run (defs (F := Bits)) (onTc (τ := τ) (main (F := Bits))) (s₀ m ρ) (fun r => Ends a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre cells defs₀ Variants.none m ρ main
    (hbody := fun c => (body_holds a m ρ c).loose) (hne := (launch0 (F := Bits)).block_pos)
    (harr := (launch0 (F := Bits)).arr_whole) (hstage := (launch0 (F := Bits)).stage_whole) (howed := fun _ _ => rfl)
    (u₀ := start a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned a) (dats a m ρ) 0 (launch0 (F := Bits)).win.arr_inj c (launch0 (F := Bits)).arr_whole
      (share_full a m ρ c) _ _ fun _ => rfl)
    (hpf := tables_held a m hp)
    (X := fun _ => iprop(emp)) (Y := fun _ => iprop(emp)) (Z := fun _ => iprop(emp))
    (hX := fun c => by rw [unscopedRestP0_eq]; iintro -; isplitr <;> iempintro)
    (hin := tabs_in a m ρ)
    (hout := tabs_out a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result array ends at what the points left in it, the seven arguments end unchanged. -/
theorem run_result (hp : Holds a m) :
    θ_run (defs (F := Bits)) (onTc (τ := τ) (main (F := Bits))) ⟨m, fun _ => 0, ρ⟩ (fun r => ∀ c : Dev nD,
      r.2.mem ((c.tc : Thread nD τ).loc main_v0) = (dats a m ρ 0 c).arrAt (5 : Fin 6) (at_ a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 (5 : Fin 6),
      ((h.1 c).1 (0 : Fin 6)).trans ((dats a m ρ 0 c).arrAt_in (0 : Fin 6) rfl _), ((h.1 c).2 0).trans (hp.1 c).symm, ((h.1 c).2 1).trans (hp.2 c).symm,
      ((h.1 c).1 (1 : Fin 6)).trans ((dats a m ρ 0 c).arrAt_in (1 : Fin 6) rfl _), ((h.1 c).1 (2 : Fin 6)).trans ((dats a m ρ 0 c).arrAt_in (2 : Fin 6) rfl _),
      ((h.1 c).1 (3 : Fin 6)).trans ((dats a m ρ 0 c).arrAt_in (3 : Fin 6) rfl _), ((h.1 c).1 (4 : Fin 6)).trans ((dats a m ρ 0 c).arrAt_in (4 : Fin 6) rfl _)⟩)
    (run_quiet a m ρ hp)

/-- The frame: every run ends, the seven arguments end unchanged, every semaphore ends at zero. -/
theorem run_frame (hp : Holds a m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => (h c).2) (run_result a m ρ hp)) ((θ_run defs _ _).mono (fun _ h => h.2) (run_quiet a m ρ hp))

end Cert.Experts.Tables

end
-- ==== Proof.ExpertsRange.lean ====
/- What the experts' precondition says: every block's owner is one of the 32 experts. -/
module

public import proofs.«01_k».proof.Defs
public import Idealize.ShloMosaic.Lib.Pointwise
public import Idealize.ShloMosaic.Lib.ValueIdx

@[expose] public section

noncomputable section

open Idealize.ShloMosaic

namespace Cert.Owners

instance facts : Cert.Pre_in_range.Facts where
  bcast_S_S416 := by decide

/-- A word between 0 and 31 as a signed word is below 32 as an unsigned one. -/
theorem word_lt (w : BitVec 32) (h : BitVec.ofBool ((0#32).sle w) &&& BitVec.ofBool (w.slt 32#32) = 1#1) : w.toNat < 32 := by
  have h1 : (0#32).sle w = true := by
    cases h0 : (0#32).sle w <;> simp [h0] at h ⊢
  have h2 : w.slt 32#32 = true := by
    cases h0 : w.slt 32#32 <;> simp [h0] at h ⊢
  simp only [BitVec.sle, BitVec.slt, decide_eq_true_eq, BitVec.toInt_eq_toNat_cond] at h1 h2
  simp at h1 h2
  split_ifs at h1 h2 <;> omega

/-- Under the precondition every entry of the owners' table is below 32. -/
theorem owner_lt {F : FTy → Type} [FloatOps F] (x : FVec F Pre_in_range.S212992x1024 .bf16) (be : IVec Pre_in_range.S416 32) (na : IVec Pre_in_range.S1 32)
    (wu : FVec F Pre_in_range.S32x1024x2048 .bf16) (bu : FVec F Pre_in_range.S32x1x2048 .f32) (wd : FVec F Pre_in_range.S32x1024x1024 .bf16)
    (bd : FVec F Pre_in_range.S32x1x1024 .f32)
    (hp : Pre_in_range.fn x be na wu bu wd bd = fun _ => 1#1) (i : Pre_in_range.S416.Idx) : (be i).toNat < 32 := by
  have h := congrFun hp i
  exact word_lt (be i) h

end Cert.Owners

end
-- ==== Proof.ExpertsAdmit.lean ====
/- Under the precondition the launch memory's tables are admissible: every block an expert owns lies inside the experts' arrays. -/
module

public import proofs.«01_k».proof.Proof.ExpertsFrame
public import proofs.«01_k».proof.Proof.ExpertsRange

@[expose] public section

set_option maxRecDepth 16384

noncomputable section

namespace Cert.Experts.Tables

open Cert.Experts Cert.Experts.Gen
open Idealize.ShloMosaic Idealize.ShloMosaic.TcCoe Idealize.SL.Sem

/-- Every owner read below 32: the blocks of the four windows an owner selects lie inside their arrays. -/
theorem admits (pf : pre0.Contents (Elt Bits)) (h : ∀ x : S416.Idx, ((pf 0 : S416.Idx → BitVec 32) x).toNat < 32) : ok0 (F := Bits) pf := by
  refine ⟨fun i => ⟨?_, .inr (Affine.block_words_dvd (s := S32x1024x2048) (p := EltTy.packing .bf16) (by decide) (by decide))⟩, fun i => ⟨?_, .inl rfl⟩,
    fun i => ⟨?_, .inr (Affine.block_words_dvd (s := S32x1024x1024) (p := EltTy.packing .bf16) (by decide) (by decide))⟩, fun i => ⟨?_, .inl rfl⟩⟩
  all_goals
    have hw := h ((Rect.unit (s := S416) ![(Scalar.indexCast (BitVec.ofNat 32 (i 0).val)).toNat] S1.size (k0_off1_inb i)).emb (Shape.Idx.first (numel1_S1.symm ▸ Nat.one_pos)))
    intro a
    fin_cases a
    · exact Nat.mul_le_mul_right 1 (show _ + 1 ≤ 32 from hw)
    · exact Nat.le_of_eq rfl
    · exact Nat.le_of_eq rfl

variable (m : (ℓ : Loc nD τ sig) → Buf (Elt Bits) ℓ)

/-- The tables of a launch memory. -/
def tablesOf : pre0.Contents (Elt Bits) := fun j => m (((0 : Dev nD) : Thread nD τ).loc (pre0.ref j))

theorem ok_of (hp : Cert.Pre_Experts (hPre_in_range := Cert.Owners.facts) m) : ok0 (F := Bits) (tablesOf m) :=
  admits _ fun x => Cert.Owners.owner_lt _ _ _ _ _ _ _ (hp 0) x

/-- The launch memory's tables, admissible under the precondition, -/
def admOf (hp : Cert.Pre_Experts (hPre_in_range := Cert.Owners.facts) m) : (pcfg0 (F := Bits)).Adm := ⟨tablesOf m, ok_of m hp⟩

/-- which the memory holds on its one device. -/
theorem holds (hp : Cert.Pre_Experts (hPre_in_range := Cert.Owners.facts) m) : Holds (admOf m hp) m :=
  ⟨fun c => by rw [Subsingleton.elim c (0 : Dev nD)]; rfl, fun c => by rw [Subsingleton.elim c (0 : Dev nD)]; rfl⟩

end Cert.Experts.Tables

end
-- ==== Proof.ExpertsIdealRun.lean ====
/- The experts' body at one grid point, run once per branch: a live block stores its feed-forward rows, a dead block zeros. -/
module

public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal

@[expose] public section

set_option maxRecDepth 16384
set_option Elab.async false

noncomputable section

namespace Cert.ExpertsIdeal.Tables

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The two tables as the body is handed them. -/
abbrev owners : Memref sig .tc .smem S416 .i32 := Memref.whole main_arg1
abbrev counts : Memref sig .tc .smem S1 .i32 := Memref.whole main_arg2

/-- The number of live blocks, as the body reads it from its table. -/
abbrev liveWord (T1 : S1.Idx → Elt Ideal .i32) : BitVec 32 :=
  View.readAt (Elt Ideal) counts.view (Rect.unit (s := S1) ![0] S1.size inb_S1_S1_0).toLoadRect T1 (Shape.Idx.first (numel1_S1.symm ▸ Nat.one_pos))

/-- One staging buffer of the result, through which what a block stores is stated. -/
abbrev outView : View sig .tc .vmem S512x1024 .bf16 := (Memref.whole cc0_stg5_0 : Memref sig .tc .vmem S512x1024 .bf16).view

set_option backward.proofsInPublic true in
set_option maxHeartbeats 8000000 in
/-- A live block: from the five staged inputs and the tables the body runs, keeps them, and stores the pieces found here. -/
noncomputable def liveRun (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S512x1024 .bf16) (harg8 : arg8.IsWhole)
    (T0 : S416.Idx → Elt Ideal .i32) (T1 : S1.Idx → Elt Ideal .i32)
    (x0 : S512x1024.Idx → Elt Ideal .bf16) (x1 : S1x1024x2048.Idx → Elt Ideal .bf16) (x2 : S1x1x2048.Idx → Elt Ideal .f32) (x3 : S1x1024x1024.Idx → Elt Ideal .bf16) (x4 : S1x1x1024.Idx → Elt Ideal .f32)
    (h1 : k0_cond1 i (liveWord T1) = 1#1) (h2 : ¬ k0_cond2 i (liveWord T1) = 1#1) :
    { out0 : List (View.Piece (Elt Ideal) S512x1024 .bf16) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (owners.view.loc (c : Thread nD τ) ↦{fullShare.right} T0)
          ∗ (counts.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (owners.view.loc (c : Thread nD τ) ↦{fullShare.right} T0)
              ∗ (counts.view.loc (c : Thread nD τ) ↦{fullShare.right} T1)
              ∗ (∃ f, arg8.view.loc (c : Thread nD τ) ↦[arg8.view.set]{fullShare} arg8.view.writes (Elt Ideal) f out0)) -∗ K ⟨⟩))
          ⊢ wp frame (wpE (defs₀ (F := Ideal)) Variants.none c none) Set.univ (cc0_experts i owners (Memref.isWhole_whole _) counts (Memref.isWhole_whole _) arg3 harg3 arg4 harg4 arg5 harg5 arg6 harg6 arg7 harg7 arg8 harg8) K } :=
  ⟨_, fun K => by
    unfold owns
    rw [cc0_experts_eq_skeleton]; unfold cc0_experts_skel
    rw [k0_part1_eq_skeleton]; unfold k0_part1_skel
    iintro ⟨H0, H1, H2, H3, H4, HT0, HT1, ⟨%d5, %f5, -, HO5⟩, Hk⟩
    have hT0 : owners.IsWhole := Memref.isWhole_whole _
    have hT1 : counts.IsWhole := Memref.isWhole_whole _
    sl_exec! (disch := first | (guard_target = k0_cond1 _ _ = _; exact h1) | (guard_target = ¬(k0_cond2 _ _ = _); exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

set_option backward.proofsInPublic true in
set_option maxHeartbeats 8000000 in
/-- A dead block: the body reads no input and stores the pieces found here. -/
noncomputable def deadRun (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S512x1024 .bf16) (harg8 : arg8.IsWhole)
    (T0 : S416.Idx → Elt Ideal .i32) (T1 : S1.Idx → Elt Ideal .i32)
    (h1 : ¬ k0_cond1 i (liveWord T1) = 1#1) (h2 : k0_cond2 i (liveWord T1) = 1#1) :
    { out0 : List (View.Piece (Elt Ideal) S512x1024 .bf16) //
      ∀ (K : PUnit → sProp 𝕄),
        iprop((owners.view.loc (c : Thread nD τ) ↦{fullShare.right} T0)
          ∗ (counts.view.loc (c : Thread nD τ) ↦{fullShare.right} T1)
          ∗ (∃ d, owns (c : Thread nD τ) arg8 fullShare d)
          ∗ (iprop((owners.view.loc (c : Thread nD τ) ↦{fullShare.right} T0)
              ∗ (counts.view.loc (c : Thread nD τ) ↦{fullShare.right} T1)
              ∗ (∃ f, arg8.view.loc (c : Thread nD τ) ↦[arg8.view.set]{fullShare} arg8.view.writes (Elt Ideal) f out0)) -∗ K ⟨⟩))
          ⊢ wp frame (wpE (defs₀ (F := Ideal)) Variants.none c none) Set.univ (cc0_experts i owners (Memref.isWhole_whole _) counts (Memref.isWhole_whole _) arg3 harg3 arg4 harg4 arg5 harg5 arg6 harg6 arg7 harg7 arg8 harg8) K } :=
  ⟨_, fun K => by
    unfold owns
    rw [cc0_experts_eq_skeleton]; unfold cc0_experts_skel
    iintro ⟨HT0, HT1, ⟨%d5, %f5, -, HO5⟩, Hk⟩
    have hT0 : owners.IsWhole := Memref.isWhole_whole _
    have hT1 : counts.IsWhole := Memref.isWhole_whole _
    sl_exec! (disch := first | (guard_target = ¬(k0_cond1 _ _ = _); exact h1) | (guard_target = k0_cond2 _ _ = _; exact h2))
    sl_step
    iapply Hk
    isplitl [HT0]; · iexact HT0
    isplitl [HT1]; · iexact HT1
    iexists _; iexact HO5⟩

variable (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S512x1024 .bf16) (harg8 : arg8.IsWhole)
  (T0 : S416.Idx → Elt Ideal .i32) (T1 : S1.Idx → Elt Ideal .i32)
  (x0 : S512x1024.Idx → Elt Ideal .bf16) (x1 : S1x1024x2048.Idx → Elt Ideal .bf16) (x2 : S1x1x2048.Idx → Elt Ideal .f32) (x3 : S1x1024x1024.Idx → Elt Ideal .bf16) (x4 : S1x1x1024.Idx → Elt Ideal .f32)

/-- The one store of a live block covers its whole tile. -/
theorem live_cover (h1 : k0_cond1 i (liveWord T1) = 1#1) (h2 : ¬ k0_cond2 i (liveWord T1) = 1#1) (y : S512x1024.Idx) :
    ∃ pc ∈ (liveRun c i arg3 harg3 arg4 harg4 arg5 harg5 arg6 harg6 arg7 harg7 arg8 harg8 T0 T1 x0 x1 x2 x3 x4 h1 h2).1, y ∈ pc.1.set :=
  View.cover_of_tiledL (liveRun c i arg3 harg3 arg4 harg4 arg5 harg5 arg6 harg6 arg7 harg7 arg8 harg8 T0 T1 x0 x1 x2 x3 x4 h1 h2).1 S512x1024.size (by sl_kernel_rfl) y

/-- The one store of a dead block covers its whole tile. -/
theorem dead_cover (h1 : ¬ k0_cond1 i (liveWord T1) = 1#1) (h2 : k0_cond2 i (liveWord T1) = 1#1) (y : S512x1024.Idx) :
    ∃ pc ∈ (deadRun c i arg3 harg3 arg4 harg4 arg5 harg5 arg6 harg6 arg7 harg7 arg8 harg8 T0 T1 h1 h2).1, y ∈ pc.1.set :=
  View.cover_of_tiledL (deadRun c i arg3 harg3 arg4 harg4 arg5 harg5 arg6 harg6 arg7 harg7 arg8 harg8 T0 T1 h1 h2).1 S512x1024.size (by sl_kernel_rfl) y

/-- What a live block leaves in the result's staging buffer. -/
def liveOut (h1 : k0_cond1 i (liveWord T1) = 1#1) (h2 : ¬ k0_cond2 i (liveWord T1) = 1#1) : S512x1024.Idx → Elt Ideal .bf16 :=
  outView.read (Elt Ideal) (outView.writes (Elt Ideal) outView.junk (liveRun c i arg3 harg3 arg4 harg4 arg5 harg5 arg6 harg6 arg7 harg7 arg8 harg8 T0 T1 x0 x1 x2 x3 x4 h1 h2).1)

/-- What a dead block leaves there. -/
def deadOut (h1 : ¬ k0_cond1 i (liveWord T1) = 1#1) (h2 : k0_cond2 i (liveWord T1) = 1#1) : S512x1024.Idx → Elt Ideal .bf16 :=
  outView.read (Elt Ideal) (outView.writes (Elt Ideal) outView.junk (deadRun c i arg3 harg3 arg4 harg4 arg5 harg5 arg6 harg6 arg7 harg7 arg8 harg8 T0 T1 h1 h2).1)

/-- The second branch runs exactly when the first does not. -/
theorem cond2_iff (w : BitVec 32) : k0_cond2 i w = 1#1 ↔ ¬ k0_cond1 i w = 1#1 := by
  have hs : ∀ p q : BitVec 32, p.sle q = !(q.slt p) := fun p q => by
    simp only [BitVec.sle, BitVec.slt, ← decide_not, not_lt]
  unfold k0_cond1 k0_cond2
  simp only [Scalar.cmpi, Scalar.extui, IntOp.cmpi, hs]
  cases (BitVec.ofNat 32 (i 0).val).slt w <;> decide

end Cert.ExpertsIdeal.Tables

end
-- ==== Proof.ExpertsIdealFrame.lean ====
/- The experts' launch at any admissible contents of the two tables: it terminates, keeps its arguments, and leaves in the result
   array, block by block, what the body stores there. -/
module

public import proofs.«01_k».proof.Proof.ExpertsIdealRun
public import Idealize.ShloMosaic.Lib.Claim
public import Idealize.ShloMosaic.Lib.Pipeline.TableIdle
public import Idealize.ShloMosaic.Adequacy
public import Idealize.ShloMosaic.Init

@[expose] public section

set_option maxRecDepth 16384
set_option Elab.async false

noncomputable section

namespace Cert.ExpertsIdeal.Tables

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

/-- The resource algebra of the staging cells, taken whole. -/
abbrev cells : Emb (UR sig nD τ) 𝕄 := emb₁

variable (a : (pcfg0 (F := Ideal)).Adm)
variable (m : (ℓ : Loc nD τ sig) → Buf (Elt Ideal) ℓ) (ρ : Dev nD → PrngReg)

/-- The pipeline at the tables `a`. -/
abbrev at_ : Pipeline.Cfg sig Λ₀ := cfg0 (F := Ideal) a
abbrev pinned : Fin 1 → Pipeline.Cfg sig Λ₀ := Pipeline.pin (pcfgs (F := Ideal)) fun _ => a

/-- The launch memory's tables are `a`. -/
def Holds (m : (ℓ : Loc nD τ sig) → Buf (Elt Ideal) ℓ) : Prop :=
  (∀ c : Dev nD, m ((c : Thread nD τ).loc main_arg1) = a.1 0) ∧ (∀ c : Dev nD, m ((c : Thread nD τ).loc main_arg2) = a.1 1)

/-- The two tables, at their literal types. -/
abbrev tab0 : S416.Idx → Elt Ideal .i32 := a.1 0
abbrev tab1 : S1.Idx → Elt Ideal .i32 := a.1 1

/-- Point `t`'s coordinates, and each window's staging buffer there. -/
abbrev crd (t : Fin (at_ a).N) : (at_ a).grid.Coords := (at_ a).grid.coords t
abbrev st0 (t : Fin (at_ a).N) : Memref sig .tc .vmem S512x1024 .bf16 := spec0_0.stage ((at_ a).slots t (0 : Fin 6))
abbrev wh0 (t : Fin (at_ a).N) : (st0 a t).IsWhole := hstage0_0 (((at_ a).slots t (0 : Fin 6)).cast nbuf0_0)
abbrev st1 (t : Fin (at_ a).N) : Memref sig .tc .vmem S1x1024x2048 .bf16 := spec0_1.stage ((at_ a).slots t (1 : Fin 6))
abbrev wh1 (t : Fin (at_ a).N) : (st1 a t).IsWhole := hstage0_1 (((at_ a).slots t (1 : Fin 6)).cast nbuf0_1)
abbrev st2 (t : Fin (at_ a).N) : Memref sig .tc .vmem S1x1x2048 .f32 := spec0_2.stage ((at_ a).slots t (2 : Fin 6))
abbrev wh2 (t : Fin (at_ a).N) : (st2 a t).IsWhole := hstage0_2 (((at_ a).slots t (2 : Fin 6)).cast nbuf0_2)
abbrev st3 (t : Fin (at_ a).N) : Memref sig .tc .vmem S1x1024x1024 .bf16 := spec0_3.stage ((at_ a).slots t (3 : Fin 6))
abbrev wh3 (t : Fin (at_ a).N) : (st3 a t).IsWhole := hstage0_3 (((at_ a).slots t (3 : Fin 6)).cast nbuf0_3)
abbrev st4 (t : Fin (at_ a).N) : Memref sig .tc .vmem S1x1x1024 .f32 := spec0_4.stage ((at_ a).slots t (4 : Fin 6))
abbrev wh4 (t : Fin (at_ a).N) : (st4 a t).IsWhole := hstage0_4 (((at_ a).slots t (4 : Fin 6)).cast nbuf0_4)
abbrev st5 (t : Fin (at_ a).N) : Memref sig .tc .vmem S512x1024 .bf16 := spec0_5.stage ((at_ a).slots t (5 : Fin 6))
abbrev wh5 (t : Fin (at_ a).N) : (st5 a t).IsWhole := hstage0_5 (((at_ a).slots t (5 : Fin 6)).cast nbuf0_5)

/-- Window `w`'s block at point `t`, read off its array at launch. -/
def blkAt (c : Dev nD) (w : Fin (at_ a).W) (t : Fin (at_ a).N) : (((at_ a).win w).xblock (crd a t)).Idx → Elt Ideal ((at_ a).win w).elt :=
  (((at_ a).win w).blk t).view.read (Elt Ideal) ((s₀ m ρ).mem (((at_ a).win w).arr.view.loc (c : Thread nD τ)))

/-- Whether block `t` is live, by the tables' word. -/
abbrev Live (t : Fin (at_ a).N) : Prop := k0_cond1 (crd a t) (liveWord (tab1 a)) = 1#1

/-- The result's block after point `t`: a live block's rows, a dead block's zeros. -/
def stored (c : Dev nD) (t : Fin (at_ a).N) : S512x1024.Idx → Elt Ideal .bf16 :=
  if h : Live a t then
    liveOut c (crd a t) (st0 a t) (wh0 a t) (st1 a t) (wh1 a t) (st2 a t) (wh2 a t) (st3 a t) (wh3 a t) (st4 a t) (wh4 a t) (st5 a t) (wh5 a t) (tab0 a) (tab1 a)
      (blkAt a m ρ c (0 : Fin 6) t) (blkAt a m ρ c (1 : Fin 6) t) (blkAt a m ρ c (2 : Fin 6) t) (blkAt a m ρ c (3 : Fin 6) t) (blkAt a m ρ c (4 : Fin 6) t)
      h (fun h2 => (cond2_iff _ _).1 h2 h)
  else
    deadOut c (crd a t) (st0 a t) (wh0 a t) (st1 a t) (wh1 a t) (st2 a t) (wh2 a t) (st3 a t) (wh3 a t) (st4 a t) (wh4 a t) (st5 a t) (wh5 a t) (tab0 a) (tab1 a)
      h ((cond2_iff _ _).2 h)

/-- The body's halves of the two tables, held throughout. -/
def Tabs (c : Dev nD) : sProp 𝕄 :=
  iprop((owners.view.loc (c : Thread nD τ) ↦{fullShare.right} tab0 a) ∗ (counts.view.loc (c : Thread nD τ) ↦{fullShare.right} tab1 a))

/-- The pipeline's proof data on core `c`: the inputs keep their blocks, the result's block is what the point stores. -/
def dats (_ : Fin 1) (c : Dev nD) : Dat τ (Elt Ideal) Unit ℕ (UR sig nD τ) ℕ (at_ a) c where
  A w := (s₀ m ρ).mem (((at_ a).win w).arr.view.loc (c : Thread nD τ))
  after w t := match w with
    | ⟨0, _⟩ => blkAt a m ρ c (0 : Fin 6) t
    | ⟨1, _⟩ => blkAt a m ρ c (1 : Fin 6) t
    | ⟨2, _⟩ => blkAt a m ρ c (2 : Fin 6) t
    | ⟨3, _⟩ => blkAt a m ρ c (3 : Fin 6) t
    | ⟨4, _⟩ => blkAt a m ρ c (4 : Fin 6) t
    | ⟨5, _⟩ => stored a m ρ c t
  Φ _ := Tabs a c
  q _ := fullShare
  owed _ := 0

theorem after0 (c : Dev nD) (t : Fin (at_ a).N) : (dats a m ρ 0 c).after (0 : Fin 6) t = blkAt a m ρ c (0 : Fin 6) t := rfl
theorem after1 (c : Dev nD) (t : Fin (at_ a).N) : (dats a m ρ 0 c).after (1 : Fin 6) t = blkAt a m ρ c (1 : Fin 6) t := rfl
theorem after2 (c : Dev nD) (t : Fin (at_ a).N) : (dats a m ρ 0 c).after (2 : Fin 6) t = blkAt a m ρ c (2 : Fin 6) t := rfl
theorem after3 (c : Dev nD) (t : Fin (at_ a).N) : (dats a m ρ 0 c).after (3 : Fin 6) t = blkAt a m ρ c (3 : Fin 6) t := rfl
theorem after4 (c : Dev nD) (t : Fin (at_ a).N) : (dats a m ρ 0 c).after (4 : Fin 6) t = blkAt a m ρ c (4 : Fin 6) t := rfl
theorem after5 (c : Dev nD) (t : Fin (at_ a).N) : (dats a m ρ 0 c).after (5 : Fin 6) t = stored a m ρ c t := rfl

/-- An input's staging buffer holds its block when the body runs, fetched at this point or earlier. -/
theorem before0 (c : Dev nD) (t : Fin (at_ a).N) (d) : (dats a m ρ 0 c).before (0 : Fin 6) t d = blkAt a m ρ c (0 : Fin 6) t :=
  ((dats a m ρ 0 c).before_in_eq_fetched (0 : Fin 6) rfl (fun _ => rfl) (fun _ _ _ => rfl) (fun t => by rw [after0]; unfold Dat.blockOf blkAt; rfl) t d).trans
    (by unfold Dat.fetched Dat.blockOf blkAt; rfl)
theorem before1 (c : Dev nD) (t : Fin (at_ a).N) (d) : (dats a m ρ 0 c).before (1 : Fin 6) t d = blkAt a m ρ c (1 : Fin 6) t :=
  ((dats a m ρ 0 c).before_in_eq_fetched (1 : Fin 6) rfl (fun _ => rfl) (fun _ _ _ => rfl) (fun t => by rw [after1]; unfold Dat.blockOf blkAt; rfl) t d).trans
    (by unfold Dat.fetched Dat.blockOf blkAt; rfl)
theorem before2 (c : Dev nD) (t : Fin (at_ a).N) (d) : (dats a m ρ 0 c).before (2 : Fin 6) t d = blkAt a m ρ c (2 : Fin 6) t :=
  ((dats a m ρ 0 c).before_in_eq_fetched (2 : Fin 6) rfl (fun _ => rfl) (fun _ _ _ => rfl) (fun t => by rw [after2]; unfold Dat.blockOf blkAt; rfl) t d).trans
    (by unfold Dat.fetched Dat.blockOf blkAt; rfl)
theorem before3 (c : Dev nD) (t : Fin (at_ a).N) (d) : (dats a m ρ 0 c).before (3 : Fin 6) t d = blkAt a m ρ c (3 : Fin 6) t :=
  ((dats a m ρ 0 c).before_in_eq_fetched (3 : Fin 6) rfl (fun _ => rfl) (fun _ _ _ => rfl) (fun t => by rw [after3]; unfold Dat.blockOf blkAt; rfl) t d).trans
    (by unfold Dat.fetched Dat.blockOf blkAt; rfl)
theorem before4 (c : Dev nD) (t : Fin (at_ a).N) (d) : (dats a m ρ 0 c).before (4 : Fin 6) t d = blkAt a m ρ c (4 : Fin 6) t :=
  ((dats a m ρ 0 c).before_in_eq_fetched (4 : Fin 6) rfl (fun _ => rfl) (fun _ _ _ => rfl) (fun t => by rw [after4]; unfold Dat.blockOf blkAt; rfl) t d).trans
    (by unfold Dat.fetched Dat.blockOf blkAt; rfl)

/-- The word a table lookup reads at offset zero is the word the body's load reads. -/
theorem word_eq : a.1.atD 1 ![0] = liveWord (tab1 a) := by
  unfold Pipeline.Prefetch.Contents.atD
  rw [dif_pos (by decide)]
  rfl

/-- One of the two branches always stores: the result's window is never left alone. -/
theorem busy (t : Fin (at_ a).N) : (at_ a).idle (5 : Fin 6) ((at_ a).grid.coords t) = false := by
  show idle0 a.1 5 (crd a t) = false
  show (!(k0_cond1 (crd a t) (a.1.atD 1 ![0]) == 1#1) && !(k0_cond2 (crd a t) (a.1.atD 1 ![0]) == 1#1)) = false
  by_cases h : k0_cond1 (crd a t) (a.1.atD 1 ![0]) = 1#1
  · simp [h]
  · simp [(cond2_iff _ _).2 h]

/-- The body at point `t`, as the pipeline calls it. -/
abbrev bodyAt (t : Fin (at_ a).N) : Prog (TpuEff nD τ sig (Elt Ideal) Λ₀ .tc) PUnit :=
  cc0_experts (crd a t) (Memref.whole main_arg1) (Memref.isWhole_whole _) (Memref.whole main_arg2) (Memref.isWhole_whole _) (st0 a t) (wh0 a t) (st1 a t) (wh1 a t) (st2 a t) (wh2 a t) (st3 a t) (wh3 a t) (st4 a t) (wh4 a t) (st5 a t) (wh5 a t)

set_option maxHeartbeats 4000000 in
/-- From the staged inputs and the tables, the body at point `t` ends with the inputs kept and the result's block stored. -/
theorem body_sound (c : Dev nD) (t : Fin (at_ a).N) :
    iprop((dats a m ρ 0 c).Φ t.castSucc ∗ (dats a m ρ 0 c).owesAt () t.castSucc
        ∗ (∃ d, owns (c : Thread nD τ) (st0 a t) fullShare ((dats a m ρ 0 c).before (0 : Fin 6) t d))
        ∗ (∃ d, owns (c : Thread nD τ) (st1 a t) fullShare ((dats a m ρ 0 c).before (1 : Fin 6) t d))
        ∗ (∃ d, owns (c : Thread nD τ) (st2 a t) fullShare ((dats a m ρ 0 c).before (2 : Fin 6) t d))
        ∗ (∃ d, owns (c : Thread nD τ) (st3 a t) fullShare ((dats a m ρ 0 c).before (3 : Fin 6) t d))
        ∗ (∃ d, owns (c : Thread nD τ) (st4 a t) fullShare ((dats a m ρ 0 c).before (4 : Fin 6) t d))
        ∗ (∃ d, owns (c : Thread nD τ) (st5 a t) fullShare ((dats a m ρ 0 c).before (5 : Fin 6) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (at_ a).W =>
                match (at_ a).idle w ((at_ a).grid.coords t) with
                | true =>
                  match ((at_ a).win w).flush t with
                  | false => iprop(∃ d, owns (c : Thread nD τ) (((at_ a).win w).stage ((at_ a).slots t w)) fullShare ((dats a m ρ 0 c).before w t d))
                  | true => owns (c : Thread nD τ) (((at_ a).win w).stage ((at_ a).slots t w)) fullShare ((dats a m ρ 0 c).after w t)
                | false => owns (c : Thread nD τ) (((at_ a).win w).stage ((at_ a).slots t w)) fullShare ((dats a m ρ 0 c).after w t)) := by
  rw [bigSep_W0]
  have i5 := busy a t
  rewrite [i5]
  simp only [before0, before1, before2, before3, before4, after0, after1, after2, after3, after4, after5]
  rewrite [show (dats a m ρ 0 c).Φ t.succ = Tabs a c from rfl, show (dats a m ρ 0 c).Φ t.castSucc = Tabs a c from rfl,
    show (dats a m ρ 0 c).owesAt () t.succ = (dats a m ρ 0 c).owesAt () t.castSucc from rfl]
  by_cases h1 : Live a t
  · have h2 : ¬ k0_cond2 (crd a t) (liveWord (tab1 a)) = 1#1 := fun h2 => (cond2_iff _ _).1 h2 h1
    have hs : stored a m ρ c t = liveOut c (crd a t) (st0 a t) (wh0 a t) (st1 a t) (wh1 a t) (st2 a t) (wh2 a t) (st3 a t) (wh3 a t) (st4 a t) (wh4 a t) (st5 a t) (wh5 a t) (tab0 a) (tab1 a)
        (blkAt a m ρ c (0 : Fin 6) t) (blkAt a m ρ c (1 : Fin 6) t) (blkAt a m ρ c (2 : Fin 6) t) (blkAt a m ρ c (3 : Fin 6) t) (blkAt a m ρ c (4 : Fin 6) t) h1 h2 := by
      unfold stored; rw [dif_pos h1]
    rw [hs]
    unfold Tabs
    iintro ⟨⟨HT0, HT1⟩, Ho, ⟨%d0, H0⟩, ⟨%d1, H1⟩, ⟨%d2, H2⟩, ⟨%d3, H3⟩, ⟨%d4, H4⟩, ⟨%d5, H5⟩⟩
    iapply ((liveRun c (crd a t) (st0 a t) (wh0 a t) (st1 a t) (wh1 a t) (st2 a t) (wh2 a t) (st3 a t) (wh3 a t) (st4 a t) (wh4 a t) (st5 a t) (wh5 a t) (tab0 a) (tab1 a)
      (blkAt a m ρ c (0 : Fin 6) t) (blkAt a m ρ c (1 : Fin 6) t) (blkAt a m ρ c (2 : Fin 6) t) (blkAt a m ρ c (3 : Fin 6) t) (blkAt a m ρ c (4 : Fin 6) t) h1 h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (live_cover c _ _ _ _ _ _ _ _ _ _ _ _ _ _ _ _ _ _ _ _ _ _)
  · have h2 : k0_cond2 (crd a t) (liveWord (tab1 a)) = 1#1 := (cond2_iff _ _).2 h1
    have hs : stored a m ρ c t = deadOut c (crd a t) (st0 a t) (wh0 a t) (st1 a t) (wh1 a t) (st2 a t) (wh2 a t) (st3 a t) (wh3 a t) (st4 a t) (wh4 a t) (st5 a t) (wh5 a t) (tab0 a) (tab1 a) h1 h2 := by
      unfold stored; rw [dif_neg h1]
    rw [hs]
    unfold Tabs
    iintro ⟨⟨HT0, HT1⟩, Ho, ⟨%d0, H0⟩, ⟨%d1, H1⟩, ⟨%d2, H2⟩, ⟨%d3, H3⟩, ⟨%d4, H4⟩, ⟨%d5, H5⟩⟩
    iapply ((deadRun c (crd a t) (st0 a t) (wh0 a t) (st1 a t) (wh1 a t) (st2 a t) (wh2 a t) (st3 a t) (wh3 a t) (st4 a t) (wh4 a t) (st5 a t) (wh5 a t) (tab0 a) (tab1 a) h1 h2).2 _)
    isplitl [HT0]; · iexact HT0
    isplitl [HT1]; · iexact HT1
    isplitl [H5]; · iexists _; iexact H5
    iintro ⟨HT0, HT1, ⟨%e5, H5⟩⟩
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr; swap
    · iexact H5
    · ipureintro; exact View.read_writes_of_cover _ _ _ _ _ (dead_cover c _ _ _ _ _ _ _ _ _ _ _ _ _ _ _ _ _)

/-- So it does at every point. -/
theorem body_holds (c : Dev nD) : BodyObligation (dats a m ρ 0 c) (defs₀ (F := Ideal)) Variants.none () Set.univ := fun t => by
  rw [bigSep_W0]
  exact body_sound a m ρ c t

/-- The staging cells' element at launch. -/
def start : UR sig nD τ :=
  initOf (Pipeline.cells (pinned a) ((launch0 (F := Ideal)).cellOf_inj fun _ => a))
    (Pipeline.launchToks (pinned a) ((launch0 (F := Ideal)).cellOf_inj fun _ => a))

/-- Every array is held whole. -/
theorem share_full (c : Dev nD) (w : Fin (at_ a).W) : (dats a m ρ 0 c).share w = fullShare := by unfold Dat.share; split <;> rfl

/-- The launch's tables, one by one. -/
theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The tables enter the invariant at the first point, -/
theorem tabs_in (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = Tabs a c from rfl]
  unfold Tabs
  iintro ⟨-, ⟨HT0, HT1⟩, -⟩
  isplitl [HT0]
  · iexact HT0
  iexact HT1

/-- and are let go after the last. -/
theorem tabs_out (c : Dev nD) : (dats a m ρ 0 c).Φ (Fin.last (at_ a).N) ⊢ iprop(BI.emp ∗ Pipeline.scopedRest spec0 c) := by
  rw [scopedRest0_eq, show (dats a m ρ 0 c).Φ (Fin.last (at_ a).N) = Tabs a c from rfl]
  unfold Tabs
  iintro ⟨-, -⟩
  isplitr; · iempintro
  iempintro

/-- Every array ends at what the points left in it, and every table at `a`. -/
def Ends : PUnit × MemSt nD τ sig (Elt Ideal) → Prop := fun r =>
  ∀ c : Dev nD, (∀ w : Fin (at_ a).W, r.2.mem (((at_ a).win w).arr.view.loc (c : Thread nD τ)) = (dats a m ρ 0 c).arrAt w (at_ a).N)
    ∧ ∀ j, r.2.mem ((c : Thread nD τ).loc (pre0.ref j)) = a.1 j

theorem tables_held (hp : Holds a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- From a memory whose tables are `a`, every run ends as `Ends` says, every semaphore at zero. -/
theorem run_quiet (hp : Holds a m) : θ_run (defs (F := Ideal)) (onTc (τ := τ) (main (F := Ideal))) (s₀ m ρ) (fun r => Ends a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre cells defs₀ Variants.none m ρ main
    (hbody := fun c => (body_holds a m ρ c).loose) (hne := (launch0 (F := Ideal)).block_pos)
    (harr := (launch0 (F := Ideal)).arr_whole) (hstage := (launch0 (F := Ideal)).stage_whole) (howed := fun _ _ => rfl)
    (u₀ := start a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned a) (dats a m ρ) 0 (launch0 (F := Ideal)).win.arr_inj c (launch0 (F := Ideal)).arr_whole
      (share_full a m ρ c) _ _ fun _ => rfl)
    (hpf := tables_held a m hp)
    (X := fun _ => iprop(emp)) (Y := fun _ => iprop(emp)) (Z := fun _ => iprop(emp))
    (hX := fun c => by rw [unscopedRestP0_eq]; iintro -; isplitr <;> iempintro)
    (hin := tabs_in a m ρ)
    (hout := tabs_out a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result array ends at what the points left in it, the seven arguments end unchanged. -/
theorem run_result (hp : Holds a m) :
    θ_run (defs (F := Ideal)) (onTc (τ := τ) (main (F := Ideal))) ⟨m, fun _ => 0, ρ⟩ (fun r => ∀ c : Dev nD,
      r.2.mem ((c.tc : Thread nD τ).loc main_v0) = (dats a m ρ 0 c).arrAt (5 : Fin 6) (at_ a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 (5 : Fin 6),
      ((h.1 c).1 (0 : Fin 6)).trans ((dats a m ρ 0 c).arrAt_in (0 : Fin 6) rfl _), ((h.1 c).2 0).trans (hp.1 c).symm, ((h.1 c).2 1).trans (hp.2 c).symm,
      ((h.1 c).1 (1 : Fin 6)).trans ((dats a m ρ 0 c).arrAt_in (1 : Fin 6) rfl _), ((h.1 c).1 (2 : Fin 6)).trans ((dats a m ρ 0 c).arrAt_in (2 : Fin 6) rfl _),
      ((h.1 c).1 (3 : Fin 6)).trans ((dats a m ρ 0 c).arrAt_in (3 : Fin 6) rfl _), ((h.1 c).1 (4 : Fin 6)).trans ((dats a m ρ 0 c).arrAt_in (4 : Fin 6) rfl _)⟩)
    (run_quiet a m ρ hp)

/-- The frame: every run ends, the seven arguments end unchanged, every semaphore ends at zero. -/
theorem run_frame (hp : Holds a m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => (h c).2) (run_result a m ρ hp)) ((θ_run defs _ _).mono (fun _ h => h.2) (run_quiet a m ρ hp))

end Cert.ExpertsIdeal.Tables

end
-- ==== Proof.ExpertsLayer.lean ====
/- One row of the experts' feed-forward, as a function of the row and of its expert's matrices and biases. -/
module

public import proofs.«01_k».proof.Proof.Gen.ExpertsIdeal.Skeleton
public import Idealize.ShloMosaic.Lib.Pointwise

@[expose] public section

set_option maxRecDepth 16384

noncomputable section

open Idealize.ShloMosaic

namespace Cert.Layer

/-- The first product, biased: its first half gates, its second half is the linear part. -/
def up (x : Fin 1024 → EReal) (wu : Fin 1024 → Fin 2048 → EReal) (bu : Fin 2048 → EReal) (f : Fin 2048) : EReal :=
  (∑ k, x k * wu k f) + bu f

/-- The gated unit of a gate `g` and a linear part `l`: `g` cut at 7, `l` clipped to ±7, `g · σ(1.702 g) · (l + 1)`. -/
def gated (g l : EReal) : EReal :=
  min g (Ideal.ofBits .f32 0x40E00000#32)
    * Ideal.div 1 (1 + Ideal.exp (-(Ideal.ofBits .f32 0x3FD9DB23#32 * min g (Ideal.ofBits .f32 0x40E00000#32))))
    * (min (Ideal.ofBits .f32 0x40E00000#32) (max (Ideal.ofBits .f32 0xC0E00000#32) l) + 1)

/-- A row's result: the second product over the gated hidden units, biased. -/
def row (x : Fin 1024 → EReal) (wu : Fin 1024 → Fin 2048 → EReal) (bu : Fin 2048 → EReal) (wd : Fin 1024 → Fin 1024 → EReal) (bd : Fin 1024 → EReal)
    (j : Fin 1024) : EReal :=
  (∑ f : Fin 1024, gated (up x wu bu ⟨f, by omega⟩) (up x wu bu ⟨1024 + f, by omega⟩) * wd f j) + bd j

/-- A row of block `b`: the expert's result below the live count `n`, zero from there on. -/
def block (b : Fin 416) (n : BitVec 32) (x : Fin 1024 → EReal) (wu : Fin 1024 → Fin 2048 → EReal) (bu : Fin 2048 → EReal)
    (wd : Fin 1024 → Fin 1024 → EReal) (bd : Fin 1024 → EReal) (j : Fin 1024) : EReal :=
  if (BitVec.ofNat 32 b.val).slt n then row x wu bu wd bd j else 0

end Cert.Layer

namespace Cert.ExpertsIdeal.Rows

open Cert.ExpertsIdeal Cert.ExpertsIdeal.Gen Cert.Layer

/-- What a live block's body stores, read at an index. -/
theorem live_apply (x : Vec Ideal S512x1024 .bf16) (wu : Vec Ideal S1x1024x2048 .bf16) (bu : Vec Ideal S1x1x2048 .f32) (wd : Vec Ideal S1x1024x1024 .bf16)
    (bd : Vec Ideal S1x1x1024 .f32) (r : Fin 512) (j : Fin 1024) :
    k0_pay1 (F := Ideal) (k0_pay3 x wu bu wd) (k0_pay4 bd) (ix2 r j)
      = row (fun k => x (ix2 r k)) (fun k f => wu (ix3 0 k f)) (fun f => bu (ix3 0 0 f)) (fun f j => wd (ix3 0 f j)) (fun j => bd (ix3 0 0 j)) j := by
  pointwise [k0_pay1, k0_pay3, k0_pay4]
  simp only [row, gated, up, zero_sub]

/-- What a dead block's body stores. -/
theorem dead_apply (y : S512x1024.Idx) : k0_pay2 (F := Ideal) y = (0 : EReal) := by
  pointwise [k0_pay2]

end Cert.ExpertsIdeal.Rows

end
-- ==== Proof.ExpertsArray.lean ====
/- What the experts' result array holds: every row of a live block its expert's feed-forward, every row of a dead block zeros. -/
module

public import proofs.«01_k».proof.Proof.ExpertsIdealFrame
public import proofs.«01_k».proof.Proof.ExpertsLayer
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.ExpertsIdeal.Tables

open Cert.ExpertsIdeal Cert.ExpertsIdeal.Gen Cert.Layer

section
variable (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S512x1024 .bf16) (harg8 : arg8.IsWhole)
  (T0 : S416.Idx → Elt Ideal .i32) (T1 : S1.Idx → Elt Ideal .i32)
  (x0 : S512x1024.Idx → Elt Ideal .bf16) (x1 : S1x1024x2048.Idx → Elt Ideal .bf16) (x2 : S1x1x2048.Idx → Elt Ideal .f32) (x3 : S1x1024x1024.Idx → Elt Ideal .bf16) (x4 : S1x1x1024.Idx → Elt Ideal .f32)

/-- A live block's one store is the payload over the staged blocks. -/
theorem liveOut_eq (h1 : k0_cond1 i (liveWord T1) = 1#1) (h2 : ¬ k0_cond2 i (liveWord T1) = 1#1) :
    liveOut c i arg3 harg3 arg4 harg4 arg5 harg5 arg6 harg6 arg7 harg7 arg8 harg8 T0 T1 x0 x1 x2 x3 x4 h1 h2
      = k0_pay1 (F := Ideal) (k0_pay3 x0 x1 x2 x3) (k0_pay4 x4) := by
  unfold liveOut liveRun
  frame_out
  simp only [View.read_rep]

/-- A dead block's one store is zeros. -/
theorem deadOut_eq (h1 : ¬ k0_cond1 i (liveWord T1) = 1#1) (h2 : k0_cond2 i (liveWord T1) = 1#1) :
    deadOut c i arg3 harg3 arg4 harg4 arg5 harg5 arg6 harg6 arg7 harg7 arg8 harg8 T0 T1 h1 h2 = k0_pay2 (F := Ideal) := by
  unfold deadOut deadRun
  frame_out
end

variable (a : (pcfg0 (F := Ideal)).Adm)
variable (m : (ℓ : Loc nD τ sig) → Buf (Elt Ideal) ℓ) (ρ : Dev nD → PrngReg)

theorem points : (at_ a).N = 416 := rfl

/-- Point `t` is block `t`. -/
theorem point (t : Fin (at_ a).N) : (crd a t 0).val = t.val :=
  (by decide +kernel : ∀ t : Fin grid0.N, (grid0.coords t 0).val = t.val) t

/-- The windows of the rows and of the result move with the block; -/
theorem index0 (t : Fin (at_ a).N) : ((at_ a).win (0 : Fin 6)).index t = ![t.val, 0] :=
  (by decide +kernel : ∀ t : Fin grid0.N, cc0_transform_0 (grid0.coords t) = ![t.val, 0]) t
theorem index5 (t : Fin (at_ a).N) : ((at_ a).win (5 : Fin 6)).index t = ![t.val, 0] :=
  (by decide +kernel : ∀ t : Fin grid0.N, cc0_transform_5 (grid0.coords t) = ![t.val, 0]) t

/-- the four others stand at the block's owner. -/
theorem owner_word (t : Fin (at_ a).N) (h : ∀ ax, ![(Scalar.indexCast (BitVec.ofNat 32 (crd a t 0).val)).toNat] ax + S1.size ax ≤ S416.size ax) :
    a.1.at 0 (Rect.unit (s := S416) ![(Scalar.indexCast (BitVec.ofNat 32 (crd a t 0).val)).toNat] S1.size h) numel1_S1 = tab0 a (ix1 ⟨t.val, t.isLt⟩) := by
  unfold Pipeline.Prefetch.Contents.at
  refine congrArg (tab0 a) (funext fun (ax : Fin 1) => Fin.ext ?_)
  obtain rfl : ax = 0 := Subsingleton.elim _ _
  have e : (Scalar.indexCast (BitVec.ofNat 32 (crd a t 0).val)).toNat = t.val := by
    rw [point]
    have := t.isLt
    have := points a
    simp [Scalar.indexCast, BitVec.toNat_ofNat]
    omega
  exact Eq.trans (b := (Scalar.indexCast (BitVec.ofNat 32 (crd a t 0).val)).toNat) rfl e

theorem index1 (t : Fin (at_ a).N) : ((at_ a).win (1 : Fin 6)).index t = ![(tab0 a (ix1 ⟨t.val, t.isLt⟩) : BitVec 32).toNat, 0, 0] := by
  rw [← owner_word a t (k0_off1_inb (crd a t))]
  rfl
theorem index2 (t : Fin (at_ a).N) : ((at_ a).win (2 : Fin 6)).index t = ![(tab0 a (ix1 ⟨t.val, t.isLt⟩) : BitVec 32).toNat, 0, 0] := by
  rw [← owner_word a t (k0_off1_inb (crd a t))]
  rfl
theorem index3 (t : Fin (at_ a).N) : ((at_ a).win (3 : Fin 6)).index t = ![(tab0 a (ix1 ⟨t.val, t.isLt⟩) : BitVec 32).toNat, 0, 0] := by
  rw [← owner_word a t (k0_off1_inb (crd a t))]
  rfl
theorem index4 (t : Fin (at_ a).N) : ((at_ a).win (4 : Fin 6)).index t = ![(tab0 a (ix1 ⟨t.val, t.isLt⟩) : BitVec 32).toNat, 0, 0] := by
  rw [← owner_word a t (k0_off1_inb (crd a t))]
  rfl

variable (c : Dev nD) (t : Fin (at_ a).N)

theorem rows_block (r : Fin 512) (k : Fin 1024) : (blkAt a m ρ c (0 : Fin 6) t : Vec Ideal S512x1024 .bf16) (ix2 r k)
    = m ((c : Thread nD τ).loc main_arg0) (ix2 ⟨t.val * 512 + r, by have := t.isLt; have := points a; omega⟩ k) := by
  blk_ext [blkAt, index0 a t]

theorem up_block (h : (tab0 a (ix1 ⟨t.val, t.isLt⟩) : BitVec 32).toNat < 32) (k : Fin 1024) (f : Fin 2048) : (blkAt a m ρ c (1 : Fin 6) t : Vec Ideal S1x1024x2048 .bf16) (ix3 0 k f)
    = m ((c : Thread nD τ).loc main_arg3) (ix3 ⟨(tab0 a (ix1 ⟨t.val, t.isLt⟩) : BitVec 32).toNat, h⟩ k f) := by
  blk_ext [blkAt, index1 a t]
theorem up_bias_block (h : (tab0 a (ix1 ⟨t.val, t.isLt⟩) : BitVec 32).toNat < 32) (f : Fin 2048) : (blkAt a m ρ c (2 : Fin 6) t : Vec Ideal S1x1x2048 .f32) (ix3 0 0 f)
    = m ((c : Thread nD τ).loc main_arg4) (ix3 ⟨(tab0 a (ix1 ⟨t.val, t.isLt⟩) : BitVec 32).toNat, h⟩ 0 f) := by
  blk_ext [blkAt, index2 a t]
theorem down_block (h : (tab0 a (ix1 ⟨t.val, t.isLt⟩) : BitVec 32).toNat < 32) (f j : Fin 1024) : (blkAt a m ρ c (3 : Fin 6) t : Vec Ideal S1x1024x1024 .bf16) (ix3 0 f j)
    = m ((c : Thread nD τ).loc main_arg5) (ix3 ⟨(tab0 a (ix1 ⟨t.val, t.isLt⟩) : BitVec 32).toNat, h⟩ f j) := by
  blk_ext [blkAt, index3 a t]
theorem down_bias_block (h : (tab0 a (ix1 ⟨t.val, t.isLt⟩) : BitVec 32).toNat < 32) (j : Fin 1024) : (blkAt a m ρ c (4 : Fin 6) t : Vec Ideal S1x1x1024 .f32) (ix3 0 0 j)
    = m ((c : Thread nD τ).loc main_arg6) (ix3 ⟨(tab0 a (ix1 ⟨t.val, t.isLt⟩) : BitVec 32).toNat, h⟩ 0 j) := by
  blk_ext [blkAt, index4 a t]

/-- The result at row `R` of block `b`: the block's owner's feed-forward of the row below the live count, zero from there on. -/
def finalAt (h : ∀ b : Fin 416, (tab0 a (ix1 b) : BitVec 32).toNat < 32) (b : Fin 416) (R : Fin 212992) (j : Fin 1024) : EReal :=
  block b (tab1 a (ix1 0)) (fun k => m ((c : Thread nD τ).loc main_arg0) (ix2 R k)) (fun k f => m ((c : Thread nD τ).loc main_arg3) (ix3 ⟨(tab0 a (ix1 b) : BitVec 32).toNat, h b⟩ k f))
    (fun f => m ((c : Thread nD τ).loc main_arg4) (ix3 ⟨(tab0 a (ix1 b) : BitVec 32).toNat, h b⟩ 0 f))
    (fun f j => m ((c : Thread nD τ).loc main_arg5) (ix3 ⟨(tab0 a (ix1 b) : BitVec 32).toNat, h b⟩ f j))
    (fun j => m ((c : Thread nD τ).loc main_arg6) (ix3 ⟨(tab0 a (ix1 b) : BitVec 32).toNat, h b⟩ 0 j)) j

/-- The result array: row `R` belongs to block `R / 512`. -/
def final (h : ∀ b : Fin 416, (tab0 a (ix1 b) : BitVec 32).toNat < 32) : Vec Ideal S212992x1024 .bf16 := fun y =>
  finalAt a m c h ⟨(y 0 : Fin 212992).val / 512, by have h0 : (y 0).val < 212992 := (y 0).isLt; omega⟩ (y 0) (y 1)

/-- The word the body compares the block number with is the live count. -/
theorem live_word (T : S1.Idx → Elt Ideal .i32) : liveWord T = T (ix1 0) := by
  unfold liveWord
  refine congrArg T (funext fun (ax : Fin 1) => Fin.ext ?_)
  obtain rfl : ax = 0 := Subsingleton.elim _ _
  rfl

/-- A block is live when its number lies below the live count. -/
theorem live_iff : Live a t ↔ (BitVec.ofNat 32 t.val).slt (tab1 a (ix1 0)) = true := by
  unfold Live k0_cond1
  rw [live_word, point]
  simp only [Scalar.cmpi, Scalar.extui, IntOp.cmpi]
  cases (BitVec.ofNat 32 t.val).slt (tab1 a (ix1 0)) <;> decide

/-- What point `t` stores, read at row `r` and column `j` of the block. -/
theorem stored_apply (h : ∀ b : Fin 416, (tab0 a (ix1 b) : BitVec 32).toNat < 32) (r : Fin 512) (j : Fin 1024) :
    stored a m ρ c t (ix2 r j) = finalAt a m c h ⟨t.val, t.isLt⟩ ⟨t.val * 512 + r, by have := t.isLt; have := points a; omega⟩ j := by
  unfold stored finalAt block
  by_cases hl : Live a t
  · rw [dif_pos hl, if_pos ((live_iff a t).1 hl), liveOut_eq, Rows.live_apply]
    simp only [rows_block, up_block a m ρ c t (h _), up_bias_block a m ρ c t (h _), down_block a m ρ c t (h _), down_bias_block a m ρ c t (h _)]
  · rw [dif_neg hl, if_neg (fun h => hl ((live_iff a t).2 h)), deadOut_eq, Rows.dead_apply]

/-- The result's blocks cover its array. -/
theorem covers : ((at_ a).win (5 : Fin 6)).Covers := by
  have n0 : ((at_ a).win (5 : Fin 6)).nblk (0 : Fin 2) = 416 := by
    show (212992 + 512 - 1) / 512 = 416
    norm_num
  have n1 : ((at_ a).win (5 : Fin 6)).nblk (1 : Fin 2) = 1 := by
    show (1024 + 1024 - 1) / 1024 = 1
    norm_num
  refine Pipeline.Window.covers_of_index_surj _ rfl (fun ax => ?_) fun β => ?_
  · fin_cases ax
    · exact Nat.succ_pos 511
    · exact Nat.succ_pos 1023
  · refine ⟨⟨(β (0 : Fin 2)).val, lt_of_lt_of_eq (β (0 : Fin 2)).isLt n0⟩, fun ax => ?_⟩
    rw [index5]
    fin_cases ax
    · rfl
    · exact (Nat.lt_one_iff.1 (lt_of_lt_of_eq (β (1 : Fin 2)).isLt n1)).symm

/-- **The experts' result array**, after the last point. -/
theorem array (h : ∀ b : Fin 416, (tab0 a (ix1 b) : BitVec 32).toNat < 32) : (dats a m ρ 0 c).arrAt (5 : Fin 6) (at_ a).N = final a m c h := by
  refine (dats a m ρ 0 c).arrAt_eq_of_covers (5 : Fin 6) _ (covers a) fun t hf y => ?_
  blk_simp
  rw [after5]
  have ht : t.val < 416 := t.isLt
  obtain ⟨r, j, rfl⟩ : ∃ (r : Fin 512) (j : Fin 1024), y = ix2 r j := ⟨y 0, y 1, eq_ix2 y⟩
  have e : (((at_ a).win (5 : Fin 6)).blk t).view.emb (ix2 r j) = (ix2 ⟨t.val * 512 + r, by omega⟩ j : S212992x1024.Idx) := by
    blk_ext [index5 a t]
  rw [e]
  have hb : (⟨(t.val * 512 + r) / 512, by omega⟩ : Fin 416) = ⟨t.val, t.isLt⟩ := Fin.ext (by dsimp only; omega)
  refine (stored_apply a m ρ c t h r j).trans ?_
  show _ = finalAt a m c h ⟨(t.val * 512 + r) / 512, _⟩ _ j
  rw [hb]
  rfl

end Cert.ExpertsIdeal.Tables

end
-- ==== Proof.ExpertsReference.lean ====
/- The experts' reference read at an index. -/
module

public import proofs.«01_k».proof.Proof.Gen.ExpertsReferenceIdeal.Run
public import proofs.«01_k».proof.Proof.ExpertsLayer
public import Idealize.ShloMosaic.Lib.Pointwise

@[expose] public section

set_option maxRecDepth 16384

noncomputable section

open Idealize.ShloMosaic Idealize.ShloMosaic.TcCoe Idealize.SL.Sem Cert.Layer

namespace Cert.ExpertsReferenceIdeal.Rows

open Cert.ExpertsReferenceIdeal Cert.ExpertsReferenceIdeal.Gen

/-- The owners as the reference indexes by them: a negative one counts from the end. -/
def owner (be : IVec S416 32) : IVec S416x1 32 :=
  broadcastInDim S416x1 ![0] bcast_S416_S416x1_0 (select (cmpi .slt be (broadcastInDim S416 ![] bcast_S_S416 (constantI S_ 32 0#32))) (addi be (broadcastInDim S416 ![] bcast_S_S416 (constantI S_ 32 32#32))) be)

/-- The products with the owners' first matrices, biased: both halves of the hidden layer before the gate. -/
def upward (x : FVec Ideal S212992x1024 .bf16) (be : IVec S416 32) (wu : FVec Ideal S32x1024x2048 .bf16) (bu : FVec Ideal S32x1x2048 .f32) : FVec Ideal S416x512x2048 .f32 :=
  addf (Host.dotGeneral dot_S416x512x1024_S416x1024x2048_S416x512x2048_2_1_1_2_0_0 none (shapeCast _ (extf .f32 x bitsLt_bf16_f32) shapeCasts_S212992x1024_S416x512x1024) (Host.gather gather_S32x1024x2048_S416x1_S416x1024x2048_12_0_n_n_0_1_110242048 (extf .f32 wu bitsLt_bf16_f32) (owner be))) (broadcastInDim S416x512x2048 ![0, 1, 2] bcast_S416x1x2048_S416x512x2048_0_1_2 (Host.gather gather_S32x1x2048_S416x1_S416x1x2048_12_0_n_n_0_1_112048 bu (owner be)))

/-- The gated hidden layer. -/
def hidden (u : FVec Ideal S416x512x2048 .f32) : FVec Ideal S416x512x1024 .f32 :=
  mulf (mulf (minimumf (extractStridedSlice S416x512x1024 ![0, 0, 0] u slices_S416x512x2048_S416x512x1024_0_0_0) (broadcastInDim S416x512x1024 ![] bcast_S_S416x512x1024 (constant S_ .f32 0x40E00000#32))) (Host.divf (broadcastInDim S416x512x1024 ![] bcast_S_S416x512x1024 (constant S_ .f32 0x3F800000#32)) (addf (broadcastInDim S416x512x1024 ![] bcast_S_S416x512x1024 (constant S_ .f32 0x3F800000#32)) (Host.exp (Host.negf (mulf (broadcastInDim S416x512x1024 ![] bcast_S_S416x512x1024 (constant S_ .f32 0x3FD9DB23#32)) (minimumf (extractStridedSlice S416x512x1024 ![0, 0, 0] u slices_S416x512x2048_S416x512x1024_0_0_0) (broadcastInDim S416x512x1024 ![] bcast_S_S416x512x1024 (constant S_ .f32 0x40E00000#32))))))))) (addf (minimumf (broadcastInDim S416x512x1024 ![] bcast_S_S416x512x1024 (id (constant S_ .f32 0x40E00000#32))) (maximumf (broadcastInDim S416x512x1024 ![] bcast_S_S416x512x1024 (id (constant S_ .f32 0xC0E00000#32))) (extractStridedSlice S416x512x1024 ![0, 0, 1024] u slices_S416x512x2048_S416x512x1024_0_0_1024))) (broadcastInDim S416x512x1024 ![] bcast_S_S416x512x1024 (constant S_ .f32 0x3F800000#32)))

/-- The reference's result as a function of its seven arguments. -/
def result (x : FVec Ideal S212992x1024 .bf16) (be : IVec S416 32) (na : IVec S1 32) (wu : FVec Ideal S32x1024x2048 .bf16) (bu : FVec Ideal S32x1x2048 .f32)
    (wd : FVec Ideal S32x1024x1024 .bf16) (bd : FVec Ideal S32x1x1024 .f32) : FVec Ideal S212992x1024 .bf16 :=
  truncf .bf16 (shapeCast _ (select (broadcastInDim S416x512x1024 ![0, 1, 2] bcast_S416x1x1_S416x512x1024_0_1_2 (broadcastInDim S416x1x1 ![0] bcast_S416_S416x1x1_0 (cmpi .slt (iotaInDim S416 32 0) (broadcastInDim S416 ![] bcast_S_S416 (shapeCast _ na shapeCasts_S1_S_))))) (addf (Host.dotGeneral dot_S416x512x1024_S416x1024x1024_S416x512x1024_2_1_1_2_0_0 none (hidden (upward x be wu bu)) (Host.gather gather_S32x1024x1024_S416x1_S416x1024x1024_12_0_n_n_0_1_110241024 (extf .f32 wd bitsLt_bf16_f32) (owner be))) (broadcastInDim S416x512x1024 ![0, 1, 2] bcast_S416x1x1024_S416x512x1024_0_1_2 (Host.gather gather_S32x1x1024_S416x1_S416x1x1024_12_0_n_n_0_1_111024 bd (owner be)))) (broadcastInDim S416x512x1024 ![] bcast_S_S416x512x1024 (id (constant S_ .f32 0x00000000#32)))) shapeCasts_S416x512x1024_S212992x1024) bitsLt_bf16_f32

theorem res_eq (m : (ℓ : Loc nD τ sig) → Buf (Elt Ideal) ℓ) (c : Dev nD) :
    Value.res_main_v62 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

/-- An owner below 32 is read as it stands. -/
theorem wrap (w : BitVec 32) (h : w.toNat < 32) : Scalar.select (IntOp.cmpi .slt w 0#32) (w + 32#32) w = w := by
  have h0 : w.slt 0#32 = false := by
    simp only [BitVec.slt, BitVec.toInt_eq_toNat_cond, decide_eq_false_iff_not]
    simp
    split_ifs <;> omega
  simp [Scalar.select, IntOp.cmpi, h0]

theorem owner_apply (be : IVec S416 32) (b : Fin 416) (h : (be (ix1 b)).toNat < 32) : owner be (ix2 b 0) = be (ix1 b) := by
  pointwise [owner]
  exact wrap _ h

/-- Their dimension numbers: a gather along the leading axis of three, of whole slabs. -/
abbrev leadDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Such a gather reads slab `idx[b]`, read signed and clamped into the array. -/
theorem lead_apply {α : Type} {N A B n w : ℕ} (hN : 0 < N) (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (b : Fin n) (p : Fin A) (q : Fin B) :
    Host.gather (leadDims N A B n wf) x idx (ix3 b p q) = x (ix3 ⟨min (idx (ix2 b 0)).toInt.toNat (N - 1), by omega⟩ p q) := by
  unfold Host.gather
  congr 1
  funext a
  refine Fin.ext ?_
  show (leadDims N A B n wf).start (ix3 b p q) idx a + (leadDims N A B n wf).batchCoord (ix3 b p q) a + (leadDims N A B n wf).offCoord (ix3 b p q) a = _
  rw [GatherDims.batchCoord_eq_zero _ _ _ (fun h => by simp at h)]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (leadDims N A B n wf).startIndexMap from List.mem_singleton.mpr rfl)]
    have hsi : (leadDims N A B n wf).siIdx (ix3 b p q) ⟨List.idxOf (0 : Fin 3) (leadDims N A B n wf).startIndexMap,
        List.idxOf_lt_length_iff.2 (List.mem_singleton.mpr rfl)⟩ = ix2 b 0 := by
      funext d; refine Fin.ext ?_
      match d with
      | ⟨0, _⟩ => rfl
      | ⟨1, _⟩ => rfl
    rw [hsi]
    rfl
  · unfold GatherDims.start
    rw [dif_neg (show ¬ (1 : Fin 3) ∈ (leadDims N A B n wf).startIndexMap by simp)]
    unfold GatherDims.offCoord
    rw [dif_pos ((GatherDims.mem_sKept _ _).mpr ⟨by simp, by simp⟩)]
    simp only [Nat.zero_add, Nat.add_zero]
    rfl
  · unfold GatherDims.start
    rw [dif_neg (show ¬ (2 : Fin 3) ∈ (leadDims N A B n wf).startIndexMap by simp)]
    unfold GatherDims.offCoord
    rw [dif_pos ((GatherDims.mem_sKept _ _).mpr ⟨by simp, by simp⟩)]
    simp only [Nat.zero_add, Nat.add_zero]
    rfl

/-- With the owners in range the slab is the owner's. -/
theorem slab {α : Type} {A B : ℕ} (wf : GatherDims.WF ⟨3, ![32, A, B]⟩ ⟨2, ![416, 1]⟩ ⟨3, ![416, A, B]⟩ [1, 2] [0] [] [0] [] 1 ![1, A, B])
    (x : (⟨3, ![32, A, B]⟩ : Shape).Idx → α) (be : IVec S416 32) (b : Fin 416) (h : (be (ix1 b)).toNat < 32) (p : Fin A) (q : Fin B) :
    Host.gather (leadDims 32 A B 416 wf) x (owner be) (ix3 b p q) = x (ix3 ⟨(be (ix1 b)).toNat, h⟩ p q) := by
  refine (lead_apply (by decide) wf x (owner be) b p q).trans (congrArg x ((ix3_inj ..).2 ⟨Fin.ext ?_, rfl, rfl⟩))
  show min (owner be (ix2 b 0)).toInt.toNat (32 - 1) = (be (ix1 b)).toNat
  have e : (be (ix1 b)).toInt = ((be (ix1 b)).toNat : ℤ) := by
    rw [BitVec.toInt_eq_toNat_cond]
    split_ifs <;> omega
  rw [owner_apply be b h, e]
  omega

section
variable (be : IVec S416 32) (b : Fin 416) (h : (be (ix1 b)).toNat < 32)

/-- The four gathers of the reference. -/
theorem slab_up (y : S32x1024x2048.Idx → EReal) (p : Fin 1024) (q : Fin 2048) :
    Host.gather gather_S32x1024x2048_S416x1_S416x1024x2048_12_0_n_n_0_1_110242048 y (owner be) (ix3 b p q) = y (ix3 ⟨(be (ix1 b)).toNat, h⟩ p q) :=
  slab gather_S32x1024x2048_S416x1_S416x1024x2048_12_0_n_n_0_1_110242048_wf y be b h p q
theorem slab_up_bias (y : S32x1x2048.Idx → EReal) (p : Fin 1) (q : Fin 2048) :
    Host.gather gather_S32x1x2048_S416x1_S416x1x2048_12_0_n_n_0_1_112048 y (owner be) (ix3 b p q) = y (ix3 ⟨(be (ix1 b)).toNat, h⟩ p q) :=
  slab gather_S32x1x2048_S416x1_S416x1x2048_12_0_n_n_0_1_112048_wf y be b h p q
theorem slab_down (y : S32x1024x1024.Idx → EReal) (p : Fin 1024) (q : Fin 1024) :
    Host.gather gather_S32x1024x1024_S416x1_S416x1024x1024_12_0_n_n_0_1_110241024 y (owner be) (ix3 b p q) = y (ix3 ⟨(be (ix1 b)).toNat, h⟩ p q) :=
  slab gather_S32x1024x1024_S416x1_S416x1024x1024_12_0_n_n_0_1_110241024_wf y be b h p q
theorem slab_down_bias (y : S32x1x1024.Idx → EReal) (p : Fin 1) (q : Fin 1024) :
    Host.gather gather_S32x1x1024_S416x1_S416x1x1024_12_0_n_n_0_1_111024 y (owner be) (ix3 b p q) = y (ix3 ⟨(be (ix1 b)).toNat, h⟩ p q) :=
  slab gather_S32x1x1024_S416x1_S416x1x1024_12_0_n_n_0_1_111024_wf y be b h p q
end

/-- A choice between two numbers by a signed comparison. -/
theorem select_slt (a b : BitVec 32) (x y : EReal) : Scalar.select (IntOp.cmpi .slt a b) x y = if a.slt b then x else y := by
  cases h : a.slt b <;> simp [Scalar.select, IntOp.cmpi, h]

/-- The first product, read at an index: the row against its block's owner's matrix. -/
theorem upward_apply (x : FVec Ideal S212992x1024 .bf16) (be : IVec S416 32) (wu : FVec Ideal S32x1024x2048 .bf16) (bu : FVec Ideal S32x1x2048 .f32)
    (b : Fin 416) (r : Fin 512) (f : Fin 2048) (h : (be (ix1 b)).toNat < 32) :
    upward x be wu bu (ix3 b r f)
      = up (fun k => x (ix2 ⟨b * 512 + r, by omega⟩ k)) (fun k f => wu (ix3 ⟨(be (ix1 b)).toNat, h⟩ k f)) (fun f => bu (ix3 ⟨(be (ix1 b)).toNat, h⟩ 0 f)) f := by
  pointwise [upward, slab_up be b h, slab_up_bias be b h]
  rfl

/-- The reference's result, read at an index: the row's expert below the live count, zero from there on. -/
theorem result_apply (x : FVec Ideal S212992x1024 .bf16) (be : IVec S416 32) (na : IVec S1 32) (wu : FVec Ideal S32x1024x2048 .bf16) (bu : FVec Ideal S32x1x2048 .f32)
    (wd : FVec Ideal S32x1024x1024 .bf16) (bd : FVec Ideal S32x1x1024 .f32)
    (b : Fin 416) (r : Fin 512) (j : Fin 1024) (h : (be (ix1 b)).toNat < 32) :
    result x be na wu bu wd bd (ix2 ⟨b * 512 + r, by omega⟩ j)
      = block b (na (ix1 0)) (fun k => x (ix2 ⟨b * 512 + r, by omega⟩ k)) (fun k f => wu (ix3 ⟨(be (ix1 b)).toNat, h⟩ k f)) (fun f => bu (ix3 ⟨(be (ix1 b)).toNat, h⟩ 0 f))
          (fun f j => wd (ix3 ⟨(be (ix1 b)).toNat, h⟩ f j)) (fun j => bd (ix3 ⟨(be (ix1 b)).toNat, h⟩ 0 j)) j := by
  have e := fun f => upward_apply x be wu bu b r f h
  pointwise [result, hidden, id_eq, slab_down be b h, slab_down_bias be b h, e]
  rw [select_slt]
  rfl

end Cert.ExpertsReferenceIdeal.Rows

end
-- ==== Proof.ExpertsIdealAdmit.lean ====
/- Under the precondition the launch memory's tables are admissible: every block an expert owns lies inside the experts' arrays. -/
module

public import proofs.«01_k».proof.Proof.ExpertsIdealFrame
public import proofs.«01_k».proof.Proof.ExpertsRange

@[expose] public section

set_option maxRecDepth 16384

noncomputable section

namespace Cert.ExpertsIdeal.Tables

open Cert.ExpertsIdeal Cert.ExpertsIdeal.Gen
open Idealize.ShloMosaic Idealize.ShloMosaic.TcCoe Idealize.SL.Sem

/-- Every owner read below 32: the blocks of the four windows an owner selects lie inside their arrays. -/
theorem admits (pf : pre0.Contents (Elt Ideal)) (h : ∀ x : S416.Idx, ((pf 0 : S416.Idx → BitVec 32) x).toNat < 32) : ok0 (F := Ideal) pf := by
  refine ⟨fun i => ⟨?_, .inr (Affine.block_words_dvd (s := S32x1024x2048) (p := EltTy.packing .bf16) (by decide) (by decide))⟩, fun i => ⟨?_, .inl rfl⟩,
    fun i => ⟨?_, .inr (Affine.block_words_dvd (s := S32x1024x1024) (p := EltTy.packing .bf16) (by decide) (by decide))⟩, fun i => ⟨?_, .inl rfl⟩⟩
  all_goals
    have hw := h ((Rect.unit (s := S416) ![(Scalar.indexCast (BitVec.ofNat 32 (i 0).val)).toNat] S1.size (k0_off1_inb i)).emb (Shape.Idx.first (numel1_S1.symm ▸ Nat.one_pos)))
    intro a
    fin_cases a
    · exact Nat.mul_le_mul_right 1 (show _ + 1 ≤ 32 from hw)
    · exact Nat.le_of_eq rfl
    · exact Nat.le_of_eq rfl

variable (m : (ℓ : Loc nD τ sig) → Buf (Elt Ideal) ℓ)

/-- The tables of a launch memory. -/
def tablesOf : pre0.Contents (Elt Ideal) := fun j => m (((0 : Dev nD) : Thread nD τ).loc (pre0.ref j))

theorem ok_of (hp : Cert.Pre_ExpertsIdeal (hPre_in_range := Cert.Owners.facts) m) : ok0 (F := Ideal) (tablesOf m) :=
  admits _ fun x => Cert.Owners.owner_lt _ _ _ _ _ _ _ (hp 0) x

/-- The launch memory's tables, admissible under the precondition, -/
def admOf (hp : Cert.Pre_ExpertsIdeal (hPre_in_range := Cert.Owners.facts) m) : (pcfg0 (F := Ideal)).Adm := ⟨tablesOf m, ok_of m hp⟩

/-- which the memory holds on its one device. -/
theorem holds (hp : Cert.Pre_ExpertsIdeal (hPre_in_range := Cert.Owners.facts) m) : Holds (admOf m hp) m :=
  ⟨fun c => by rw [Subsingleton.elim c (0 : Dev nD)]; rfl, fun c => by rw [Subsingleton.elim c (0 : Dev nD)]; rfl⟩

end Cert.ExpertsIdeal.Tables

end
-- ==== Proof.ExpertsEquation.lean ====
/- The experts' result array is the reference's. -/
module

public import proofs.«01_k».proof.Proof.ExpertsArray
public import proofs.«01_k».proof.Proof.ExpertsReference
public import proofs.«01_k».proof.Proof.ExpertsIdealAdmit

@[expose] public section

set_option maxRecDepth 16384

noncomputable section

open Idealize.ShloMosaic Idealize.ShloMosaic.TcCoe Idealize.SL.Sem

namespace Cert.ExpertsEquation

open Cert.ExpertsIdeal Cert.ExpertsIdeal.Tables

variable (m : (ℓ : Loc nD τ sig) → Buf (Elt Ideal) ℓ) (ρ : Dev nD → PrngReg) (hp : Cert.Pre_ExpertsIdeal (hPre_in_range := Cert.Owners.facts) m) (c : Dev nD)

/-- Under the precondition the tables the launch reads name experts that exist. -/
theorem owners_lt (b : Fin 416) : (tab0 (admOf m hp) (ix1 b) : BitVec 32).toNat < 32 :=
  Cert.Owners.owner_lt _ _ _ _ _ _ _ (hp 0) (ix1 b)

/-- From the same seven arrays, the reference's composed result is the array the experts' launch leaves. -/
theorem value (x : FVec Ideal ExpertsReferenceIdeal.S212992x1024 .bf16) (be : IVec ExpertsReferenceIdeal.S416 32) (na : IVec ExpertsReferenceIdeal.S1 32)
    (wu : FVec Ideal ExpertsReferenceIdeal.S32x1024x2048 .bf16) (bu : FVec Ideal ExpertsReferenceIdeal.S32x1x2048 .f32)
    (wd : FVec Ideal ExpertsReferenceIdeal.S32x1024x1024 .bf16) (bd : FVec Ideal ExpertsReferenceIdeal.S32x1x1024 .f32)
    (h0 : x = m ((c : Thread nD τ).loc main_arg0)) (h1 : be = m ((c : Thread nD τ).loc main_arg1)) (h2 : na = m ((c : Thread nD τ).loc main_arg2))
    (h3 : wu = m ((c : Thread nD τ).loc main_arg3)) (h4 : bu = m ((c : Thread nD τ).loc main_arg4)) (h5 : wd = m ((c : Thread nD τ).loc main_arg5))
    (h6 : bd = m ((c : Thread nD τ).loc main_arg6)) :
    Cert.ExpertsReferenceIdeal.Rows.result x be na wu bu wd bd = (dats (admOf m hp) m ρ 0 c).arrAt (5 : Fin 6) (at_ (admOf m hp)).N := by
  rw [array (admOf m hp) m ρ c (owners_lt m hp)]
  have t0 : be = tab0 (admOf m hp) := h1.trans ((holds m hp).1 c)
  have t1 : na = tab1 (admOf m hp) := h2.trans ((holds m hp).2 c)
  subst t0 t1 h0 h3 h4 h5 h6
  funext y
  obtain ⟨R, j, rfl⟩ : ∃ (R : Fin 212992) (j : Fin 1024), y = ix2 R j := ⟨y 0, y 1, eq_ix2 y⟩
  have hR : R = ⟨(⟨R.val / 512, by omega⟩ : Fin 416) * 512 + (⟨R.val % 512, by omega⟩ : Fin 512), by dsimp only; omega⟩ := Fin.ext (by dsimp only; omega)
  have e := Cert.ExpertsReferenceIdeal.Rows.result_apply (m ((c : Thread nD τ).loc main_arg0)) (tab0 (admOf m hp)) (tab1 (admOf m hp)) (m ((c : Thread nD τ).loc main_arg3))
    (m ((c : Thread nD τ).loc main_arg4)) (m ((c : Thread nD τ).loc main_arg5)) (m ((c : Thread nD τ).loc main_arg6)) ⟨R.val / 512, by omega⟩ ⟨R.val % 512, by omega⟩ j (owners_lt m hp _)
  rw [← hR] at e
  exact e

end Cert.ExpertsEquation

end
-- ==== Proof.lean ====
/- The certificate: the frames, and that the attention and the experts' feed-forward of the kernel are the references' at the ideal instance. -/
module

public import proofs.«01_k».proof.Proof.Gen.KernelIdeal.Value
public import proofs.«01_k».proof.Proof.Gen.ReferenceIdeal.Run
public import proofs.«01_k».proof.Proof.Gen.Kernel.Frame
public import proofs.«01_k».proof.Proof.Gen.KernelIdeal.Frame
public import proofs.«01_k».proof.Proof.Finite
public import proofs.«01_k».proof.Proof.ExpertsAdmit
public import proofs.«01_k».proof.Proof.ExpertsEquation
public import proofs.«01_k».proof.Proof.Gen.ExpertsReferenceIdeal.Run
public import proofs.«01_k».proof.Defs
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem Idealize.ShloMosaic.StableHlo

/-- The reference runs, leaves its arguments, and every semaphore ends at zero. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl _⟩) (Cert.ReferenceIdeal.Value.run m g)

open Cert.KernelIdeal.Block in
/-- Under the precondition the kernel's result array is the reference's. -/
theorem value (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (hZ : V0 (Proc.devRef .tc Cert.ReferenceIdeal.main_arg0) = m ((c.tc : Thread Cert.KernelIdeal.nD Cert.KernelIdeal.τ).loc Cert.KernelIdeal.main_arg0))
    (hb : V0 (Proc.devRef .tc Cert.ReferenceIdeal.main_arg1) = m ((c.tc : Thread Cert.KernelIdeal.nD Cert.KernelIdeal.τ).loc Cert.KernelIdeal.main_arg1))
    (hs : V0 (Proc.devRef .tc Cert.ReferenceIdeal.main_arg2) = m ((c.tc : Thread Cert.KernelIdeal.nD Cert.KernelIdeal.τ).loc Cert.KernelIdeal.main_arg2))
    (hp : Cert.Pre_finite.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1) :
    (Cert.KernelIdeal.Gen.dats m 0 c).arrAt 9 (Cert.KernelIdeal.cfgs 0).N = Cert.Equation.whole V0 :=
  (final m c).trans (Cert.Equation.result_eq _ _ _ V0 _ _ hZ hb hs (fun a h g r j => bias_entry m c a h g r j) (fun h g r => sink_entry m c h g r)
    (Cert.Finite.channel _ _ _ hp) (Cert.Finite.bias _ _ _ hp) (Cert.Finite.sink _ _ _ hp))

/-- From arguments that agree and under the precondition, both runs end with one array. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hp ha
  refine ⟨fun c => (Cert.KernelIdeal.Gen.dats m 0 c).arrAt 9 (Cert.KernelIdeal.cfgs 0).N, Cert.KernelIdeal.Value.run_blocks m g, ?_⟩
  refine (θ_run _ _ _).mono (fun r h c => ⟨(h c).1.trans ?_, (h c).2⟩) (Cert.ReferenceIdeal.Value.run m' g')
  show _ = (Cert.KernelIdeal.Gen.dats m 0 c).arrAt 9 (Cert.KernelIdeal.cfgs 0).N
  rw [value m c (launchContents m' c) (ha c).1 (ha c).2.1 (ha c).2.2 (hp c)]
  rfl

/-- The experts' reference runs, leaves its arguments, and every semaphore ends at zero. -/
theorem experts_reference_frame : Cert.quiescent_ExpertsReferenceIdeal (hExpertsReferenceIdeal := Cert.ExpertsReferenceIdeal.Gen.facts) := fun m g _ =>
  (θ_run _ _ _).mono (fun r h => ⟨fun c => (h c).2, sem_eq_zero_of_no_sems rfl _⟩) (Cert.ExpertsReferenceIdeal.Value.run m g)

/-- The experts' launch runs from every memory whose owners are experts, at the bits -/
theorem experts_frame : Cert.quiescent_Experts (hExperts := Cert.Experts.Gen.facts) (hPre_in_range := Cert.Owners.facts) := fun m g hp =>
  Cert.Experts.Tables.run_frame (Cert.Experts.Tables.admOf m hp) m g (Cert.Experts.Tables.holds m hp)

/-- and at the ideal instance. -/
theorem experts_ideal_frame : Cert.quiescent_ExpertsIdeal (hExpertsIdeal := Cert.ExpertsIdeal.Gen.facts) (hPre_in_range := Cert.Owners.facts) := fun m g hp =>
  Cert.ExpertsIdeal.Tables.run_frame (Cert.ExpertsIdeal.Tables.admOf m hp) m g (Cert.ExpertsIdeal.Tables.holds m hp)

/-- From arguments that agree, every owner an expert, the experts' launch and their reference end with one array. -/
theorem experts_algebraic : Cert.algebraic_ExpertsIdeal_ExpertsReferenceIdeal (hExpertsIdeal := Cert.ExpertsIdeal.Gen.facts)
    (hExpertsReferenceIdeal := Cert.ExpertsReferenceIdeal.Gen.facts) (hPre_in_range := Cert.Owners.facts) := by
  intro m g m' g' hp ha
  refine ⟨fun c => (Cert.ExpertsIdeal.Tables.dats (Cert.ExpertsIdeal.Tables.admOf m hp) m g 0 c).arrAt (5 : Fin 6) (Cert.ExpertsIdeal.Tables.at_ (Cert.ExpertsIdeal.Tables.admOf m hp)).N,
    Cert.ExpertsIdeal.Tables.run_result (Cert.ExpertsIdeal.Tables.admOf m hp) m g (Cert.ExpertsIdeal.Tables.holds m hp), ?_⟩
  refine (θ_run _ _ _).mono (fun r h c => ⟨(h c).1.trans ?_, (h c).2⟩) (Cert.ExpertsReferenceIdeal.Value.run m' g')
  obtain ⟨a0, a1, a2, a3, a4, a5, a6⟩ := ha c
  exact (Cert.ExpertsReferenceIdeal.Rows.res_eq m' c).trans (Cert.ExpertsEquation.value m g hp c _ _ _ _ _ _ _ a0 a1 a2 a3 a4 a5 a6)

theorem claim : Cert.Claim := ⟨Cert.Kernel.Gen.facts, Cert.KernelIdeal.Gen.facts, Cert.ReferenceIdeal.Gen.facts, Cert.Experts.Gen.facts,
  Cert.ExpertsIdeal.Gen.facts, Cert.ExpertsReferenceIdeal.Gen.facts, Cert.Finite.facts, Cert.Owners.facts,
  fun m g _ => Cert.Kernel.Gen.frame m g, fun m g _ => Cert.KernelIdeal.Gen.frame m g, fun m g _ => Cert.KernelIdeal.Gen.frame m g,
  reference_frame, fun m g _ => reference_frame m g trivial,
  experts_frame, experts_ideal_frame, experts_reference_frame, fun m g _ => experts_reference_frame m g trivial,
  trivial, algebraic, trivial, experts_algebraic⟩

end Cert.Proof
